-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_conf [hPre_finite_conf : Cert.Pre_finite_conf.Facts] (m : (ℓ : Loc Cert.KernelIdeal.nD Cert.KernelIdeal.τ Cert.KernelIdeal.sig) → Buf (Elt Ideal) ℓ) : Prop :=
  ∀ c : Dev Cert.KernelIdeal.nD,
    (Cert.Pre_finite_conf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_conf [hPre_finite_conf : Cert.Pre_finite_conf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_conf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_conf [hKernelIdeal : Cert.KernelIdeal.Facts] [hPre_finite_conf : Cert.Pre_finite_conf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_conf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_conf [hReferenceIdeal : Cert.ReferenceIdeal.Facts] [hPre_finite_conf : Cert.Pre_finite_conf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_conf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "neg_half_ln2" .f32 0xBEB17218#32 (((-1 / 2) * (Real.log 2) : ℝ) : EReal)

def algebraic_KernelIdeal_ReferenceIdeal_pre_finite_conf [hKernelIdeal : Cert.KernelIdeal.Facts] [hReferenceIdeal : Cert.ReferenceIdeal.Facts] [hPre_finite_conf : Cert.Pre_finite_conf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_conf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_conf : Cert.Pre_finite_conf.Facts),
    quiescent_Kernel (hKernel := hKernel)
    ∧ quiescent_KernelIdeal (hKernelIdeal := hKernelIdeal)
    ∧ quiescent_KernelIdeal_pre_finite_conf (hKernelIdeal := hKernelIdeal) (hPre_finite_conf := hPre_finite_conf)
    ∧ quiescent_ReferenceIdeal (hReferenceIdeal := hReferenceIdeal)
    ∧ quiescent_ReferenceIdeal_pre_finite_conf (hReferenceIdeal := hReferenceIdeal) (hPre_finite_conf := hPre_finite_conf)
    ∧ preserves_Kernel_KernelIdeal
    ∧ algebraic_KernelIdeal_ReferenceIdeal_pre_finite_conf (hKernelIdeal := hKernelIdeal) (hReferenceIdeal := hReferenceIdeal) (hPre_finite_conf := hPre_finite_conf)
-- ==== Pre_finite_conf.lean ====
abbrev S16x20000x4 : Shape := ⟨3, ![16, 20000, 4]⟩
abbrev S16x20000x81 : Shape := ⟨3, ![16, 20000, 81]⟩
abbrev S16x20000 : Shape := ⟨2, ![16, 20000]⟩
abbrev S_ : Shape := ⟨0, ![]⟩

class Facts : Prop where
  bcast_S_S16x20000x81 : S_.BroadcastsInDim S16x20000x81 (![] : Fin 0 → Fin S16x20000x81.rank)
  reducesTo_S16x20000x81_S_d0_1_2 : S16x20000x81.ReducesTo [0, 1, 2] S_
  h_S_ : 0 < S_.numel

variable [Facts]

def fn {F : FTy → Type} [FloatOps F] (main_arg0 : FVec F S16x20000x4 .f32) (main_arg1 : FVec F S16x20000x4 .f32) (main_arg2 : FVec F S16x20000x81 .f32) (main_arg3 : IVec S16x20000 32) : IVec S_ 1 :=
  let main_v0 : FVec F S16x20000x81 .f32 := Host.absf main_arg2
  let main_cst : FVec F S_ .f32 := constant S_ .f32 0x7F800000#32
  let main_v1 : FVec F S16x20000x81 .f32 := broadcastInDim S16x20000x81 ![] bcast_S_S16x20000x81 main_cst
  let main_v2 : IVec S16x20000x81 1 := cmpf .olt main_v0 main_v1
  let main_c : IVec S_ 1 := constantI S_ 1 1#1
  let main_v3 : IVec S_ 1 := (fun x v => Host.reduce IntOp.andi x v reducesTo_S16x20000x81_S_d0_1_2 h_S_) main_v2 main_c
  main_v3
-- ==== Kernel.lean ====
abbrev S16x20000x4 : Shape := ⟨3, ![16, 20000, 4]⟩
abbrev S16x20000x81 : Shape := ⟨3, ![16, 20000, 81]⟩
abbrev S16x20000 : Shape := ⟨2, ![16, 20000]⟩
abbrev S2x8x20000 : Shape := ⟨3, ![2, 8, 20000]⟩
abbrev S2x20000x8 : Shape := ⟨3, ![2, 20000, 8]⟩
abbrev S40000x8 : Shape := ⟨2, ![40000, 8]⟩
abbrev S_ : Shape := ⟨0, ![]⟩
abbrev S40000x128 : Shape := ⟨2, ![40000, 128]⟩
abbrev S1x1 : Shape := ⟨2, ![1, 1]⟩
abbrev S1x2000x81 : Shape := ⟨3, ![1, 2000, 81]⟩
abbrev S2000x128 : Shape := ⟨2, ![2000, 128]⟩
abbrev S2000x81 : Shape := ⟨2, ![2000, 81]⟩
abbrev S2000x1 : Shape := ⟨2, ![2000, 1]⟩
abbrev S1 : Shape := ⟨1, ![1]⟩
abbrev S1x1x1 : Shape := ⟨3, ![1, 1, 1]⟩
abbrev S1x10000x4 : Shape := ⟨3, ![1, 10000, 4]⟩
abbrev S10000x128 : Shape := ⟨2, ![10000, 128]⟩
abbrev S10000 : Shape := ⟨1, ![10000]⟩
abbrev S10000x1 : Shape := ⟨2, ![10000, 1]⟩
abbrev S10000x4 : Shape := ⟨2, ![10000, 4]⟩
abbrev S1x10000x1 : Shape := ⟨3, ![1, 10000, 1]⟩

abbrev nBuf : Space → Nat
  | .hbm => 17
  | .vmem => 29
  | .smem => 0
  | _ => 0

abbrev bufTy : (tb : Table) → Fin (tcTables nBuf tb) → BufTy
  | .hbm, ⟨0, _⟩ => ⟨S16x20000x4, .f32⟩
  | .hbm, ⟨1, _⟩ => ⟨S16x20000x4, .f32⟩
  | .hbm, ⟨2, _⟩ => ⟨S16x20000x81, .f32⟩
  | .hbm, ⟨3, _⟩ => ⟨S16x20000, .i32⟩
  | .hbm, ⟨4, _⟩ => ⟨S2x8x20000, .i32⟩
  | .hbm, ⟨5, _⟩ => ⟨S2x20000x8, .i32⟩
  | .hbm, ⟨6, _⟩ => ⟨S40000x8, .i32⟩
  | .hbm, ⟨7, _⟩ => ⟨S_, .i32⟩
  | .hbm, ⟨8, _⟩ => ⟨S_, .i32⟩
  | .hbm, ⟨9, _⟩ => ⟨S40000x128, .i32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x2000x81, .f32⟩
  | .local _ .vmem, ⟨1, _⟩ => ⟨S1x2000x81, .f32⟩
  | .local _ .vmem, ⟨2, _⟩ => ⟨S1x2000x81, .f32⟩
  | .local _ .vmem, ⟨3, _⟩ => ⟨S1x2000x81, .f32⟩
  | .local _ .vmem, ⟨4, _⟩ => ⟨S1x2000x81, .f32⟩
  | .local _ .vmem, ⟨5, _⟩ => ⟨S1x2000x81, .f32⟩
  | .local _ .vmem, ⟨6, _⟩ => ⟨S1x2000x81, .f32⟩
  | .local _ .vmem, ⟨7, _⟩ => ⟨S1x2000x81, .f32⟩
  | .local _ .vmem, ⟨8, _⟩ => ⟨S1x2000x81, .f32⟩
  | .local _ .vmem, ⟨9, _⟩ => ⟨S1x2000x81, .f32⟩
  | .local _ .vmem, ⟨10, _⟩ => ⟨S1x2000x81, .f32⟩
  | .local _ .vmem, ⟨11, _⟩ => ⟨S1x2000x81, .f32⟩
  | .local _ .vmem, ⟨12, _⟩ => ⟨S1x2000x81, .f32⟩
  | .local _ .vmem, ⟨13, _⟩ => ⟨S1x2000x81, .f32⟩
  | .local _ .vmem, ⟨14, _⟩ => ⟨S1x2000x81, .f32⟩
  | .local _ .vmem, ⟨15, _⟩ => ⟨S1x2000x81, .f32⟩
  | .local _ .vmem, ⟨16, _⟩ => ⟨S2000x128, .i32⟩
  | .local _ .vmem, ⟨17, _⟩ => ⟨S2000x128, .i32⟩
  | .local _ .vmem, ⟨18, _⟩ => ⟨S1x1, .f32⟩
  | .local _ .vmem, ⟨19, _⟩ => ⟨S1x10000x4, .f32⟩
  | .local _ .vmem, ⟨20, _⟩ => ⟨S1x10000x4, .f32⟩
  | .local _ .vmem, ⟨21, _⟩ => ⟨S1x10000x4, .f32⟩
  | .local _ .vmem, ⟨22, _⟩ => ⟨S1x10000x4, .f32⟩
  | .local _ .vmem, ⟨23, _⟩ => ⟨S10000x128, .i32⟩
  | .local _ .vmem, ⟨24, _⟩ => ⟨S10000x128, .i32⟩
  | .local _ .vmem, ⟨25, _⟩ => ⟨S1x1, .f32⟩
  | .local _ .vmem, ⟨26, _⟩ => ⟨S1x1, .f32⟩
  | .local _ .vmem, ⟨27, _⟩ => ⟨S1x1, .f32⟩
  | .local _ .vmem, ⟨28, _⟩ => ⟨S1x1, .f32⟩
  | _, _ => ⟨S16x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_c : Ref sig .tc := ⟨.hbm, 7, rfl⟩
abbrev main_call0_call0_v0 : Ref sig .tc := ⟨.hbm, 8, rfl⟩
abbrev main_call0_v3 : Ref sig .tc := ⟨.hbm, 9, rfl⟩
abbrev main_call0_v4 : Ref sig .tc := ⟨.hbm, 10, rfl⟩
abbrev main_call0_v5_0 : Ref sig .tc := ⟨.hbm, 11, rfl⟩
abbrev main_call0_v5_1 : Ref sig .tc := ⟨.hbm, 12, rfl⟩
abbrev main_call0_v5_2 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28

abbrev nD : Nat := 1
abbrev τ : Topo := Topo.v7x

variable {F : FTy → Type} [FloatOps F]

abbrev grid0 : Pipeline.Grid := ⟨2, ![2, 10], ![false, false]⟩

def k0_cond1 (i : grid0.Coords) : BitVec 1 :=
  let arg0 : BitVec 32 := BitVec.ofNat 32 (i 0).val
  let c0_i32_72 : BitVec 32 := 0#32
  let v228 : BitVec 1 := Scalar.cmpi .eq arg0 c0_i32_72
  let arg1 : BitVec 32 := BitVec.ofNat 32 (i 1).val
  let c0_i32_73 : BitVec 32 := 0#32
  let v229 : BitVec 1 := Scalar.cmpi .eq arg1 c0_i32_73
  let v230 : BitVec 1 := Scalar.andi v228 v229
  let v231 : BitVec 32 := Scalar.extui v230
  let c0_i32_74 : BitVec 32 := 0#32
  let v232 : BitVec 1 := Scalar.cmpi .ne v231 c0_i32_74
  v232

def k0_cond2 (i : grid0.Coords) : BitVec 1 :=
  let arg0 : BitVec 32 := BitVec.ofNat 32 (i 0).val
  let c0_i32_75 : BitVec 32 := 0#32
  let v233 : BitVec 1 := Scalar.cmpi .ne arg0 c0_i32_75
  let arg1 : BitVec 32 := BitVec.ofNat 32 (i 1).val
  let c0_i32_76 : BitVec 32 := 0#32
  let v234 : BitVec 1 := Scalar.cmpi .ne arg1 c0_i32_76
  let v235 : BitVec 1 := Scalar.ori v233 v234
  let v236 : BitVec 32 := Scalar.extui v235
  let c0_i32_77 : BitVec 32 := 0#32
  let v237 : BitVec 1 := Scalar.cmpi .ne v236 c0_i32_77
  v237

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let c0_i32_0 : BitVec 32 := 0#32
  let c0_i32_1 : BitVec 32 := 0#32
  ![v1.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi v0 c1_i32
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.addi v0 c2_i32
  let c0_i32 : BitVec 32 := 0#32
  let c0_i32_0 : BitVec 32 := 0#32
  ![v1.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c3_i32 : BitVec 32 := 3#32
  let v1 : BitVec 32 := Scalar.addi v0 c3_i32
  let c0_i32 : BitVec 32 := 0#32
  let c0_i32_0 : BitVec 32 := 0#32
  ![v1.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c4_i32 : BitVec 32 := 4#32
  let v1 : BitVec 32 := Scalar.addi v0 c4_i32
  let c0_i32 : BitVec 32 := 0#32
  let c0_i32_0 : BitVec 32 := 0#32
  ![v1.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c5_i32 : BitVec 32 := 5#32
  let v1 : BitVec 32 := Scalar.addi v0 c5_i32
  let c0_i32 : BitVec 32 := 0#32
  let c0_i32_0 : BitVec 32 := 0#32
  ![v1.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c6_i32 : BitVec 32 := 6#32
  let v1 : BitVec 32 := Scalar.addi v0 c6_i32
  let c0_i32 : BitVec 32 := 0#32
  let c0_i32_0 : BitVec 32 := 0#32
  ![v1.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.addi v0 c7_i32
  let c0_i32 : BitVec 32 := 0#32
  let c0_i32_0 : BitVec 32 := 0#32
  ![v1.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2000x81 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2000x81 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2000x81 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2000x81 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2000x81 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2000x81 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2000x81 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2000x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨2, ![16, 2], ![false, false]⟩

def k1_cond1 (i : grid1.Coords) : BitVec 1 :=
  let arg0 : BitVec 32 := BitVec.ofNat 32 (i 0).val
  let c0_i32_15 : BitVec 32 := 0#32
  let v41 : BitVec 1 := Scalar.cmpi .eq arg0 c0_i32_15
  let arg1 : BitVec 32 := BitVec.ofNat 32 (i 1).val
  let c0_i32_16 : BitVec 32 := 0#32
  let v42 : BitVec 1 := Scalar.cmpi .eq arg1 c0_i32_16
  let v43 : BitVec 1 := Scalar.andi v41 v42
  let v44 : BitVec 32 := Scalar.extui v43
  let c0_i32_17 : BitVec 32 := 0#32
  let v45 : BitVec 1 := Scalar.cmpi .ne v44 c0_i32_17
  v45

def k1_cond2 (i : grid1.Coords) : BitVec 1 :=
  let arg0 : BitVec 32 := BitVec.ofNat 32 (i 0).val
  let c0_i32_15 : BitVec 32 := 0#32
  let v41 : BitVec 1 := Scalar.cmpi .eq arg0 c0_i32_15
  let arg1 : BitVec 32 := BitVec.ofNat 32 (i 1).val
  let c0_i32_16 : BitVec 32 := 0#32
  let v42 : BitVec 1 := Scalar.cmpi .eq arg1 c0_i32_16
  let v43 : BitVec 1 := Scalar.andi v41 v42
  let v_true : BitVec 1 := 1#1
  let v46 : BitVec 1 := Scalar.xori v43 v_true
  let v47 : BitVec 32 := Scalar.extui v46
  let c0_i32_18 : BitVec 32 := 0#32
  let v48 : BitVec 1 := Scalar.cmpi .ne v47 c0_i32_18
  v48

def k1_cond3 (i : grid1.Coords) : BitVec 1 :=
  let arg0 : BitVec 32 := BitVec.ofNat 32 (i 0).val
  let c15_i32 : BitVec 32 := 15#32
  let v49 : BitVec 1 := Scalar.cmpi .eq arg0 c15_i32
  let arg1 : BitVec 32 := BitVec.ofNat 32 (i 1).val
  let c1_i32 : BitVec 32 := 1#32
  let v50 : BitVec 1 := Scalar.cmpi .eq arg1 c1_i32
  let v51 : BitVec 1 := Scalar.andi v49 v50
  let v52 : BitVec 32 := Scalar.extui v51
  let c0_i32_19 : BitVec 32 := 0#32
  let v53 : BitVec 1 := Scalar.cmpi .ne v52 c0_i32_19
  v53

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let v18 : BitVec 32 := Scalar.addi v17 arg1
  let c0_i32_4 : BitVec 32 := 0#32
  let c0_i32_5 : BitVec 32 := 0#32
  ![v18.toNat, c0_i32_4.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x10000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x10000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S10000x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]
-- ==== KernelIdeal.lean ====
variable {F : FTy → Type} [FloatOps F] [Named F]
def κ : String → Option EReal := fun
  | "inv_ln2" => some (((Real.log 2)⁻¹ : ℝ) : EReal)
  | "neg_half_ln2" => some (((-1 / 2) * (Real.log 2) : ℝ) : EReal)
  | _ => none
-- ==== ReferenceIdeal.lean ====
abbrev S16x20000x4 : Shape := ⟨3, ![16, 20000, 4]⟩
abbrev S16x20000x81 : Shape := ⟨3, ![16, 20000, 81]⟩
abbrev S16x20000 : Shape := ⟨2, ![16, 20000]⟩
abbrev S_ : Shape := ⟨0, ![]⟩
abbrev S16x20000x1 : Shape := ⟨3, ![16, 20000, 1]⟩
abbrev S320000x81 : Shape := ⟨2, ![320000, 81]⟩
abbrev S320000 : Shape := ⟨1, ![320000]⟩
abbrev S320000x1 : Shape := ⟨2, ![320000, 1]⟩
abbrev S1x81 : Shape := ⟨2, ![1, 81]⟩

abbrev nBuf : Space → Nat
  | .hbm => 91
  | .vmem => 0
  | .smem => 0
  | _ => 0

abbrev bufTy : (tb : Table) → Fin (tcTables nBuf tb) → BufTy
  | .hbm, ⟨0, _⟩ => ⟨S16x20000x4, .f32⟩
  | .hbm, ⟨1, _⟩ => ⟨S16x20000x4, .f32⟩
  | .hbm, ⟨2, _⟩ => ⟨S16x20000x81, .f32⟩
  | .hbm, ⟨3, _⟩ => ⟨S16x20000, .i32⟩
  | .hbm, ⟨4, _⟩ => ⟨S_, .i32⟩
  | .hbm, ⟨5, _⟩ => ⟨S16x20000, .i32⟩
  | .hbm, ⟨6, _⟩ => ⟨S16x20000, .i1⟩
  | .hbm, ⟨7, _⟩ => ⟨S16x20000, .i32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S16x20000, .f32⟩
  | .hbm, ⟨12, _⟩ => ⟨S16x20000x4, .f32⟩
  | .hbm, ⟨13, _⟩ => ⟨S16x20000x4, .f32⟩
  | .hbm, ⟨14, _⟩ => ⟨S_, .f32⟩
  | .hbm, ⟨15, _⟩ => ⟨S16x20000x4, .f32⟩
  | .hbm, ⟨16, _⟩ => ⟨S16x20000x4, .i1⟩
  | .hbm, ⟨17, _⟩ => ⟨S_, .f32⟩
  | .hbm, ⟨18, _⟩ => ⟨S16x20000x4, .f32⟩
  | .hbm, ⟨19, _⟩ => ⟨S16x20000x4, .f32⟩
  | .hbm, ⟨20, _⟩ => ⟨S16x20000x4, .f32⟩
  | .hbm, ⟨21, _⟩ => ⟨S_, .f32⟩
  | .hbm, ⟨22, _⟩ => ⟨S16x20000x4, .f32⟩
  | .hbm, ⟨23, _⟩ => ⟨S16x20000x4, .f32⟩
  | .hbm, ⟨24, _⟩ => ⟨S16x20000x4, .f32⟩
  | .hbm, ⟨25, _⟩ => ⟨S16x20000x1, .f32⟩
  | .hbm, ⟨26, _⟩ => ⟨S16x20000x4, .f32⟩
  | .hbm, ⟨27, _⟩ => ⟨S16x20000x4, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S320000x81, .f32⟩
  | .hbm, ⟨32, _⟩ => ⟨S320000, .i32⟩
  | .hbm, ⟨33, _⟩ => ⟨S320000, .i1⟩
  | .hbm, ⟨34, _⟩ => ⟨S320000, .f32⟩
  | .hbm, ⟨35, _⟩ => ⟨S320000x1, .i32⟩
  | .hbm, ⟨36, _⟩ => ⟨S1x81, .i32⟩
  | .hbm, ⟨37, _⟩ => ⟨S320000x81, .i32⟩
  | .hbm, ⟨38, _⟩ => ⟨S320000x81, .i32⟩
  | .hbm, ⟨39, _⟩ => ⟨S320000x81, .i1⟩
  | .hbm, ⟨40, _⟩ => ⟨S320000x81, .f32⟩
  | .hbm, ⟨41, _⟩ => ⟨S320000x1, .f32⟩
  | .hbm, ⟨42, _⟩ => ⟨S320000x81, .f32⟩
  | .hbm, ⟨43, _⟩ => ⟨S320000x81, .f32⟩
  | .hbm, ⟨44, _⟩ => ⟨S_, .f32⟩
  | .hbm, ⟨45, _⟩ => ⟨S320000x81, .f32⟩
  | .hbm, ⟨46, _⟩ => ⟨S320000x81, .i1⟩
  | .hbm, ⟨47, _⟩ => ⟨S_, .f32⟩
  | .hbm, ⟨48, _⟩ => ⟨S_, .f32⟩
  | .hbm, ⟨49, _⟩ => ⟨S320000x81, .f32⟩
  | .hbm, ⟨50, _⟩ => ⟨S320000x81, .f32⟩
  | .hbm, ⟨51, _⟩ => ⟨S320000x81, .f32⟩
  | .hbm, ⟨52, _⟩ => ⟨S_, .f32⟩
  | .hbm, ⟨53, _⟩ => ⟨S320000x81, .f32⟩
  | .hbm, ⟨54, _⟩ => ⟨S320000x81, .i1⟩
  | .hbm, ⟨55, _⟩ => ⟨S_, .f32⟩
  | .hbm, ⟨56, _⟩ => ⟨S320000x81, .f32⟩
  | .hbm, ⟨57, _⟩ => ⟨S320000x81, .f32⟩
  | .hbm, ⟨58, _⟩ => ⟨S320000x81, .f32⟩
  | .hbm, ⟨59, _⟩ => ⟨S_, .f32⟩
  | .hbm, ⟨60, _⟩ => ⟨S320000x81, .f32⟩
  | .hbm, ⟨61, _⟩ => ⟨S320000x81, .f32⟩
  | .hbm, ⟨62, _⟩ => ⟨S320000x81, .f32⟩
  | .hbm, ⟨63, _⟩ => ⟨S320000x81, .f32⟩
  | .hbm, ⟨64, _⟩ => ⟨S_, .f32⟩
  | .hbm, ⟨65, _⟩ => ⟨S320000x81, .f32⟩
  | .hbm, ⟨66, _⟩ => ⟨S320000x81, .f32⟩
  | .hbm, ⟨67, _⟩ => ⟨S320000x81, .f32⟩
  | .hbm, ⟨68, _⟩ => ⟨S320000x81, .f32⟩
  | .hbm, ⟨69, _⟩ => ⟨S_, .f32⟩
  | .hbm, ⟨70, _⟩ => ⟨S320000x81, .f32⟩
  | .hbm, ⟨71, _⟩ => ⟨S320000x81, .f32⟩
  | .hbm, ⟨72, _⟩ => ⟨S_, .f32⟩
  | .hbm, ⟨73, _⟩ => ⟨S320000x81, .f32⟩
  | .hbm, ⟨74, _⟩ => ⟨S320000x81, .f32⟩
  | .hbm, ⟨75, _⟩ => ⟨S_, .f32⟩
  | .hbm, ⟨76, _⟩ => ⟨S320000x81, .f32⟩
  | .hbm, ⟨77, _⟩ => ⟨S320000x81, .f32⟩
  | .hbm, ⟨78, _⟩ => ⟨S320000x81, .f32⟩
  | .hbm, ⟨79, _⟩ => ⟨S320000x81, .f32⟩
  | .hbm, ⟨80, _⟩ => ⟨S320000x81, .f32⟩
  | .hbm, ⟨81, _⟩ => ⟨S320000x81, .f32⟩
  | .hbm, ⟨82, _⟩ => ⟨S320000x81, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S16x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_cst_13 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_14 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_cst_16 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== Proof.KernelIdeal.Conf.lean ====
/- The confidence call: what its body leaves at each point, and that it does. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t` of the confidence call, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := k0_cond1 i = 1#1
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 10 % 2 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val % 20 = 0)

abbrev cond0_1 (i : grid0.Coords) : Prop := k0_cond2 i = 1#1
theorem hcond0_1 : ∀ t : Fin cfg0.N, cond0_1 (grid0.coords t) ↔ 1 ≤ t.val :=
  (fun t => by
    have ht : t.val < 20 := Nat.lt_of_lt_of_eq t.isLt N_0
    have e0 : (grid0.coords t 0).val = t.val / 10 % 2 := Pipeline.Grid.coords_val t 0 (by decide) rfl
    have e1 : (grid0.coords t 1).val = t.val / 1 % 10 := Pipeline.Grid.coords_val t 1 (by decide) rfl
    simp only [cond0_1, k0_cond2, e0, e1]
    word_cmp
   : ∀ t : Fin grid0.N, cond0_1 (grid0.coords t) ↔ 1 ≤ t.val)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
/-- The positions at which the sum's buffer of the confidence call holds nothing stored yet: the first, and the one after the last point. -/
def freshTab0_9 : ℕ → Bool
  | 0 => true
  | n + 1 => (0x80000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
theorem liveAt0_9_A : ∀ t : Fin cfg0.N, cond0_0 (grid0.coords t) → ¬cond0_1 (grid0.coords t) → cfg0.idle 9 (grid0.coords t) = false := by decide +kernel
theorem liveAt0_9_B : ∀ t : Fin cfg0.N, ¬cond0_0 (grid0.coords t) → cond0_1 (grid0.coords t) → cfg0.idle 9 (grid0.coords t) = false := by decide +kernel
theorem notFresh0_9_B : ∀ t : Fin cfg0.N, ¬cond0_0 (grid0.coords t) → cond0_1 (grid0.coords t) → cfg0.fresh 9 t.val = false := by
  intro t; rw [fresh0_9_eq t]; revert t; decide +kernel

abbrev VO0_9 : View sig .tc .vmem S1x1 .f32 := (Memref.whole cc0_stg9_0 : Memref sig .tc .vmem S1x1 .f32).view
abbrev ms0_0 (t : Fin cfg0.N) : Memref sig .tc .vmem S1x2000x81 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2000x81 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2000x81 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2000x81 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2000x81 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2000x81 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2000x81 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2000x81 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2000x128 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1 .f32 := win0_9.stage (cfg0.slots t 9)
abbrev hs0_9 (t : Fin cfg0.N) : (ms0_9 t).IsWhole := hstage0_9 ((cfg0.slots t 9).cast nbuf0_9)

section Case0A
variable (c : Dev nD) (i : grid0.Coords) (arg2 : Memref sig .tc .vmem S1x2000x81 .f32) (harg2 : arg2.IsWhole) (arg3 : Memref sig .tc .vmem S1x2000x81 .f32) (harg3 : arg3.IsWhole) (arg4 : Memref sig .tc .vmem S1x2000x81 .f32) (harg4 : arg4.IsWhole) (arg5 : Memref sig .tc .vmem S1x2000x81 .f32) (harg5 : arg5.IsWhole) (arg6 : Memref sig .tc .vmem S1x2000x81 .f32) (harg6 : arg6.IsWhole) (arg7 : Memref sig .tc .vmem S1x2000x81 .f32) (harg7 : arg7.IsWhole) (arg8 : Memref sig .tc .vmem S1x2000x81 .f32) (harg8 : arg8.IsWhole) (arg9 : Memref sig .tc .vmem S1x2000x81 .f32) (harg9 : arg9.IsWhole) (arg10 : Memref sig .tc .vmem S2000x128 .i32) (harg10 : arg10.IsWhole) (arg11 : Memref sig .tc .vmem S1x1 .f32) (harg11 : arg11.IsWhole) (hc0 : cond0_0 i) (hc1 : ¬cond0_1 i)
    (x0 : Vec F S1x2000x81 .f32) (x1 : Vec F S1x2000x81 .f32) (x2 : Vec F S1x2000x81 .f32) (x3 : Vec F S1x2000x81 .f32) (x4 : Vec F S1x2000x81 .f32) (x5 : Vec F S1x2000x81 .f32) (x6 : Vec F S1x2000x81 .f32) (x7 : Vec F S1x2000x81 .f32) (x8 : Vec F S2000x128 .i32)
include c i arg2 harg2 arg3 harg3 arg4 harg4 arg5 harg5 arg6 harg6 arg7 harg7 arg8 harg8 arg9 harg9 arg10 harg10 arg11 harg11 hc0 hc1 x0 x1 x2 x3 x4 x5 x6 x7 x8

set_option maxHeartbeats 1000000 in
/-- The first point of the confidence call: the body stores its partial sum. The stores come out of the run. -/
noncomputable def kernelRun0_A  :
    { L9 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9)) -∗ K ⟨⟩))
          ⊢ wp frame (wpE (defs₀ (F := F)) Variants.none c none) E (cc0__conf_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__conf_kernel_eq_skeleton]; unfold cc0__conf_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

theorem cover0_A_9  (y : S1x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6 x7 x8).1 S1x1.size (by sl_kernel_rfl) y

def out0_A_9  : Vec F S1x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 hc1 x0 x1 x2 x3 x4 x5 x6 x7 x8).1)

end Case0A

section Case0B
variable (c : Dev nD) (i : grid0.Coords) (arg2 : Memref sig .tc .vmem S1x2000x81 .f32) (harg2 : arg2.IsWhole) (arg3 : Memref sig .tc .vmem S1x2000x81 .f32) (harg3 : arg3.IsWhole) (arg4 : Memref sig .tc .vmem S1x2000x81 .f32) (harg4 : arg4.IsWhole) (arg5 : Memref sig .tc .vmem S1x2000x81 .f32) (harg5 : arg5.IsWhole) (arg6 : Memref sig .tc .vmem S1x2000x81 .f32) (harg6 : arg6.IsWhole) (arg7 : Memref sig .tc .vmem S1x2000x81 .f32) (harg7 : arg7.IsWhole) (arg8 : Memref sig .tc .vmem S1x2000x81 .f32) (harg8 : arg8.IsWhole) (arg9 : Memref sig .tc .vmem S1x2000x81 .f32) (harg9 : arg9.IsWhole) (arg10 : Memref sig .tc .vmem S2000x128 .i32) (harg10 : arg10.IsWhole) (arg11 : Memref sig .tc .vmem S1x1 .f32) (harg11 : arg11.IsWhole) (hc0 : ¬cond0_0 i) (hc1 : cond0_1 i)
    (x0 : Vec F S1x2000x81 .f32) (x1 : Vec F S1x2000x81 .f32) (x2 : Vec F S1x2000x81 .f32) (x3 : Vec F S1x2000x81 .f32) (x4 : Vec F S1x2000x81 .f32) (x5 : Vec F S1x2000x81 .f32) (x6 : Vec F S1x2000x81 .f32) (x7 : Vec F S1x2000x81 .f32) (x8 : Vec F S2000x128 .i32) (xo9 : Vec F S1x1 .f32)
include c i arg2 harg2 arg3 harg3 arg4 harg4 arg5 harg5 arg6 harg6 arg7 harg7 arg8 harg8 arg9 harg9 arg10 harg10 arg11 harg11 hc0 hc1 x0 x1 x2 x3 x4 x5 x6 x7 x8 xo9

set_option maxHeartbeats 1000000 in
/-- A later point of the confidence call: the body adds its partial sum to what is there. -/
noncomputable def kernelRun0_B  :
    { L9 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9)) -∗ K ⟨⟩))
          ⊢ wp frame (wpE (defs₀ (F := F)) Variants.none c none) E (cc0__conf_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__conf_kernel_eq_skeleton]; unfold cc0__conf_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

theorem cover0_B_9  (y : S1x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 x7 x8 xo9).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 x7 x8 xo9).1 S1x1.size (by sl_kernel_rfl) y

def out0_B_9  : Vec F S1x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 hc0 hc1 x0 x1 x2 x3 x4 x5 x6 x7 x8 xo9).1)

end Case0B

/-- What the confidence call's sum holds after the body at position `n`. -/
def outsAt0 (c : Dev nD) : (n : ℕ) → n < cfg0.N → Vec F S1x1 .f32
  | 0, hn => out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩)
  | n + 1, hn =>
    if h0 : (n + 1) % 20 = 0 then
      if h1 : 1 ≤ (n + 1) then
        False.elim (by have hN : n + 1 < 20 := lt_of_lt_of_eq hn (show cfg0.N = 20 from N_0); omega)
      else
        out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩)
    else
      if h1 : 1 ≤ (n + 1) then
        out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn))
      else
        False.elim (by have hN : n + 1 < 20 := lt_of_lt_of_eq hn (show cfg0.N = 20 from N_0); omega)

theorem outsAt0_A (c : Dev nD) (t : Fin cfg0.N) (h0 : t.val % 20 = 0) (h1 : ¬1 ≤ t.val) :
    outsAt0 V c t.val t.isLt = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) := by
  obtain ⟨n, hn⟩ := t
  cases n with
  | zero => exact rfl
  | succ n => exact (dif_pos h0).trans ((dif_neg h1).trans rfl)

theorem outsAt0_B (c : Dev nD) (t : Fin cfg0.N) (h0 : ¬t.val % 20 = 0) (h1 : 1 ≤ t.val) :
    outsAt0 V c t.val t.isLt = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The proof data of the confidence call: every input keeps its block, the sum is as `outsAt0` says, and each window holds its share of its array. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt)
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- At a point that stores nothing the sum would stay; there is no such point. -/
theorem hcarry0_9 (c : Dev nD) : ∀ (t : Fin cfg0.N) (_ : t.val ≠ 0), cfg0.idle 9 (grid0.coords t) = true → cfg0.fresh 9 t.val = false →
    (dat0 V c).after 9 t = (dat0 V c).after 9 ⟨t.val - 1, by omega⟩ := by
  intro t _ hi _
  have hN : t.val < 20 := lt_of_lt_of_eq t.isLt (show cfg0.N = 20 from N_0)
  rw [after0_9, after0_9]
  by_cases h0 : t.val % 20 = 0
  · by_cases h1 : 1 ≤ t.val
    · exfalso; omega
    · rw [liveAt0_9_A t ((hcond0_0 t).mpr h0) (fun h => h1 ((hcond0_1 t).mp h))] at hi
      exact absurd hi Bool.false_ne_true
  · by_cases h1 : 1 ≤ t.val
    · rw [liveAt0_9_B t (fun h => h0 ((hcond0_0 t).mp h)) ((hcond0_1 t).mpr h1)] at hi
      exact absurd hi Bool.false_ne_true
    · exfalso; omega
/-- At a later point the sum's buffer holds what the point before left. -/
theorem before0_9_B (c : Dev nD) (t : Fin cfg0.N) (h0 : ¬t.val % 20 = 0) (h1 : 1 ≤ t.val) (d) :
    (dat0 V c).before 9 t d = (outsAt0 V c (t.val - 1) (Nat.lt_of_le_of_lt (Nat.sub_le _ _) t.isLt)) := by
  rw [Dat.before_out_traj _ 9 rfl (fun _ _ => rfl) (hcarry0_9 V c) t.val t rfl d,
    if_neg (by rw [notFresh0_9_B t (fun h => h0 ((hcond0_0 t).mp h)) ((hcond0_1 t).mpr h1)]; exact Bool.false_ne_true)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 1600000 in
/-- The body of the confidence call at any point, from what its buffers hold before to what they hold after. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl]
  have hN : t.val < 20 := lt_of_lt_of_eq t.isLt (show cfg0.N = 20 from N_0)
  by_cases h0 : t.val % 20 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8 t], after0_8]
      rw [show (dat0 V c).leavesExact 9 t = owns (c : Thread nD τ) (ms0_9 t) fullShare ((dat0 V c).after 9 t) from by
      unfold Dat.leavesExact; rw [liveAt0_9_A t ((hcond0_0 t).mpr h0) (fun h => h1 ((hcond0_1 t).mp h))], after0_9]
      rw [outsAt0_A V c t h0 h1]
      unfold out0_A_9
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iintro ⟨H0, H1, H2, H3, H4, H5, H6, H7, H8, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8 t], after0_8]
      rw [show (dat0 V c).leavesExact 9 t = owns (c : Thread nD τ) (ms0_9 t) fullShare ((dat0 V c).after 9 t) from by
      unfold Dat.leavesExact; rw [liveAt0_9_B t (fun h => h0 ((hcond0_0 t).mp h)) ((hcond0_1 t).mpr h1)], after0_9]
      rw [outsAt0_B V c t h0 h1]
      simp only [before0_9_B V c t h0 h1]
      unfold out0_B_9
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨H0, H1, H2, H3, H4, H5, H6, H7, H8, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _)
    · exfalso; omega

theorem defs₀_row0 (t : Fin cfg0.N) :
    defs₀ (F := F) .tc cfg0.body (cfg0.bodyArgs t (cfg0.slots t)) = bodyAt0 t := by
  unfold defs₀; rw [Defs.onTc_tc]

/-- The same as the pipeline asks it. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.KernelIdeal.Loc.lean ====
/- The location call: what its body leaves at each point, and that it does. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t` of the location call, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := k1_cond1 i = 1#1
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 2 % 16 := Pipeline.Grid.coords_val t 0 (by decide) rfl
    have e1 : (grid1.coords t 1).val = t.val / 1 % 2 := Pipeline.Grid.coords_val t 1 (by decide) rfl
    simp only [cond1_0, k1_cond1, e0, e1]
    word_cmp
   : ∀ t : Fin grid1.N, cond1_0 (grid1.coords t) ↔ t.val % 32 = 0)

abbrev cond1_1 (i : grid1.Coords) : Prop := k1_cond2 i = 1#1
theorem hcond1_1 : ∀ t : Fin cfg1.N, cond1_1 (grid1.coords t) ↔ 1 ≤ t.val :=
  (by decide +kernel : ∀ t : Fin grid1.N, cond1_1 (grid1.coords t) ↔ 1 ≤ t.val)

abbrev cond1_2 (i : grid1.Coords) : Prop := k1_cond3 i = 1#1
theorem hcond1_2 : ∀ t : Fin cfg1.N, cond1_2 (grid1.coords t) ↔ t.val % 32 = 31 :=
  (fun t => by
    have ht : t.val < 32 := Nat.lt_of_lt_of_eq t.isLt N_1
    have e0 : (grid1.coords t 0).val = t.val / 2 % 16 := Pipeline.Grid.coords_val t 0 (by decide) rfl
    have e1 : (grid1.coords t 1).val = t.val / 1 % 2 := Pipeline.Grid.coords_val t 1 (by decide) rfl
    simp only [cond1_2, k1_cond3, e0, e1]
    word_cmp
   : ∀ t : Fin grid1.N, cond1_2 (grid1.coords t) ↔ t.val % 32 = 31)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- The positions at which the total's buffer holds nothing stored yet. -/
def freshTab1_4 : ℕ → Bool
  | 0 => true
  | n + 1 => (0x80000000 : ℕ).testBit n
theorem freshTab1_4_step : ∀ t : Fin cfg1.N,
    freshTab1_4 (t.val + 1) = ((cfg1.win 4).flush t || (cfg1.idle 4 (cfg1.grid.coords t) && freshTab1_4 t.val)) := by decide +kernel
theorem fresh1_4_eq (t : Fin cfg1.N) : cfg1.fresh 4 t.val = freshTab1_4 t.val :=
  Pipeline.Cfg.fresh_tab cfg1 4 freshTab1_4 rfl freshTab1_4_step t.val (Nat.le_of_lt t.isLt)
theorem liveAt1_4_A : ∀ t : Fin cfg1.N, cond1_0 (grid1.coords t) → ¬cond1_1 (grid1.coords t) → ¬cond1_2 (grid1.coords t) → cfg1.idle 4 (grid1.coords t) = false := by decide +kernel
theorem liveAt1_4_B : ∀ t : Fin cfg1.N, ¬cond1_0 (grid1.coords t) → cond1_1 (grid1.coords t) → ¬cond1_2 (grid1.coords t) → cfg1.idle 4 (grid1.coords t) = false := by decide +kernel
theorem notFresh1_4_B : ∀ t : Fin cfg1.N, ¬cond1_0 (grid1.coords t) → cond1_1 (grid1.coords t) → ¬cond1_2 (grid1.coords t) → cfg1.fresh 4 t.val = false := by
  intro t; rw [fresh1_4_eq t]; revert t; decide +kernel
theorem liveAt1_4_C : ∀ t : Fin cfg1.N, ¬cond1_0 (grid1.coords t) → cond1_1 (grid1.coords t) → cond1_2 (grid1.coords t) → cfg1.idle 4 (grid1.coords t) = false := by decide +kernel
theorem notFresh1_4_C : ∀ t : Fin cfg1.N, ¬cond1_0 (grid1.coords t) → cond1_1 (grid1.coords t) → cond1_2 (grid1.coords t) → cfg1.fresh 4 t.val = false := by
  intro t; rw [fresh1_4_eq t]; revert t; decide +kernel
theorem idleAt1_5_A : ∀ t : Fin cfg1.N, cond1_0 (grid1.coords t) → ¬cond1_1 (grid1.coords t) → ¬cond1_2 (grid1.coords t) → cfg1.idle 5 (grid1.coords t) = true := by decide +kernel
theorem noFlush1_5_A : ∀ t : Fin cfg1.N, cond1_0 (grid1.coords t) → ¬cond1_1 (grid1.coords t) → ¬cond1_2 (grid1.coords t) → (cfg1.win 5).flush t = false := by decide +kernel
theorem idleAt1_5_B : ∀ t : Fin cfg1.N, ¬cond1_0 (grid1.coords t) → cond1_1 (grid1.coords t) → ¬cond1_2 (grid1.coords t) → cfg1.idle 5 (grid1.coords t) = true := by decide +kernel
theorem noFlush1_5_B : ∀ t : Fin cfg1.N, ¬cond1_0 (grid1.coords t) → cond1_1 (grid1.coords t) → ¬cond1_2 (grid1.coords t) → (cfg1.win 5).flush t = false := by decide +kernel
theorem liveAt1_5_C : ∀ t : Fin cfg1.N, ¬cond1_0 (grid1.coords t) → cond1_1 (grid1.coords t) → cond1_2 (grid1.coords t) → cfg1.idle 5 (grid1.coords t) = false := by decide +kernel
/-- The positions at which the location sum's buffer holds nothing stored yet. -/
def freshTab1_6 : ℕ → Bool
  | 0 => true
  | n + 1 => (0x80000000 : ℕ).testBit n
theorem freshTab1_6_step : ∀ t : Fin cfg1.N,
    freshTab1_6 (t.val + 1) = ((cfg1.win 6).flush t || (cfg1.idle 6 (cfg1.grid.coords t) && freshTab1_6 t.val)) := by decide +kernel
theorem fresh1_6_eq (t : Fin cfg1.N) : cfg1.fresh 6 t.val = freshTab1_6 t.val :=
  Pipeline.Cfg.fresh_tab cfg1 6 freshTab1_6 rfl freshTab1_6_step t.val (Nat.le_of_lt t.isLt)
theorem liveAt1_6_A : ∀ t : Fin cfg1.N, cond1_0 (grid1.coords t) → ¬cond1_1 (grid1.coords t) → ¬cond1_2 (grid1.coords t) → cfg1.idle 6 (grid1.coords t) = false := by decide +kernel
theorem liveAt1_6_B : ∀ t : Fin cfg1.N, ¬cond1_0 (grid1.coords t) → cond1_1 (grid1.coords t) → ¬cond1_2 (grid1.coords t) → cfg1.idle 6 (grid1.coords t) = false := by decide +kernel
theorem notFresh1_6_B : ∀ t : Fin cfg1.N, ¬cond1_0 (grid1.coords t) → cond1_1 (grid1.coords t) → ¬cond1_2 (grid1.coords t) → cfg1.fresh 6 t.val = false := by
  intro t; rw [fresh1_6_eq t]; revert t; decide +kernel
theorem liveAt1_6_C : ∀ t : Fin cfg1.N, ¬cond1_0 (grid1.coords t) → cond1_1 (grid1.coords t) → cond1_2 (grid1.coords t) → cfg1.idle 6 (grid1.coords t) = false := by decide +kernel
theorem notFresh1_6_C : ∀ t : Fin cfg1.N, ¬cond1_0 (grid1.coords t) → cond1_1 (grid1.coords t) → cond1_2 (grid1.coords t) → cfg1.fresh 6 t.val = false := by
  intro t; rw [fresh1_6_eq t]; revert t; decide +kernel

abbrev VO1_4 : View sig .tc .vmem S1x1 .f32 := (Memref.whole cc1_stg4_0 : Memref sig .tc .vmem S1x1 .f32).view
abbrev VO1_5 : View sig .tc .vmem S1x1 .f32 := (Memref.whole cc1_stg5_0 : Memref sig .tc .vmem S1x1 .f32).view
abbrev VO1_6 : View sig .tc .vmem S1x1 .f32 := (Memref.whole cc1_stg6_0 : Memref sig .tc .vmem S1x1 .f32).view
abbrev ms1_0 (t : Fin cfg1.N) : Memref sig .tc .vmem S1x10000x4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x10000x4 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x128 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)

section Case1A
variable (c : Dev nD) (i : grid1.Coords) (arg2 : Memref sig .tc .vmem S1x10000x4 .f32) (harg2 : arg2.IsWhole) (arg3 : Memref sig .tc .vmem S1x10000x4 .f32) (harg3 : arg3.IsWhole) (arg4 : Memref sig .tc .vmem S10000x128 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : ¬cond1_1 i) (hc2 : ¬cond1_2 i)
    (x0 : Vec F S1x10000x4 .f32) (x1 : Vec F S1x10000x4 .f32) (x2 : Vec F S10000x128 .i32) (x3 : Vec F S1x1 .f32)
include c i arg2 harg2 arg3 harg3 arg4 harg4 arg5 harg5 arg6 harg6 arg7 harg7 arg8 harg8 hc0 hc1 hc2 x0 x1 x2 x3

set_option maxHeartbeats 1000000 in
/-- The first point of the location call: count and location sum are stored. -/
noncomputable def kernelRun1_A  :
    Σ' (L4 : List (View.Piece (Elt F) S1x1 .f32)), Σ' (L5 : List (View.Piece (Elt F) S1x1 .f32)), { L6 : List (View.Piece (Elt F) S1x1 .f32) //
      ∀ (xi5 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f L6)) -∗ K ⟨⟩))
          ⊢ wp frame (wpE (defs₀ (F := F)) Variants.none c none) E (cc1__loc_kernel i arg2 harg2 arg3 harg3 arg4 harg4 arg5 harg5 arg6 harg6 arg7 harg7 arg8 harg8) K } := by
  refine ⟨?_, [], ?_, fun xi5 E K => ?run⟩
  case run =>
    simp only [cc1__loc_kernel_eq_skeleton]; unfold cc1__loc_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact H6

theorem cover1_A_4  (y : S1x1.Idx) :
    ∃ pc ∈ (kernelRun1_A c i arg2 harg2 arg3 harg3 arg4 harg4 arg5 harg5 arg6 harg6 arg7 harg7 arg8 harg8 hc0 hc1 hc2 x0 x1 x2 x3).1, y ∈ pc.1.set :=
  View.cover_of_tiledL (kernelRun1_A c i arg2 harg2 arg3 harg3 arg4 harg4 arg5 harg5 arg6 harg6 arg7 harg7 arg8 harg8 hc0 hc1 hc2 x0 x1 x2 x3).1 S1x1.size (by sl_kernel_rfl) y

def out1_A_4  : Vec F S1x1 .f32 :=
  VO1_4.read (Elt F) (VO1_4.writes (Elt F) VO1_4.junk (kernelRun1_A c i arg2 harg2 arg3 harg3 arg4 harg4 arg5 harg5 arg6 harg6 arg7 harg7 arg8 harg8 hc0 hc1 hc2 x0 x1 x2 x3).1)

def out1_A_5  : Vec F S1x1 .f32 :=
  VO1_5.read (Elt F) (VO1_5.writes (Elt F) VO1_5.junk (kernelRun1_A c i arg2 harg2 arg3 harg3 arg4 harg4 arg5 harg5 arg6 harg6 arg7 harg7 arg8 harg8 hc0 hc1 hc2 x0 x1 x2 x3).2.1)

theorem cover1_A_6  (y : S1x1.Idx) :
    ∃ pc ∈ (kernelRun1_A c i arg2 harg2 arg3 harg3 arg4 harg4 arg5 harg5 arg6 harg6 arg7 harg7 arg8 harg8 hc0 hc1 hc2 x0 x1 x2 x3).2.2.1, y ∈ pc.1.set :=
  View.cover_of_tiledL (kernelRun1_A c i arg2 harg2 arg3 harg3 arg4 harg4 arg5 harg5 arg6 harg6 arg7 harg7 arg8 harg8 hc0 hc1 hc2 x0 x1 x2 x3).2.2.1 S1x1.size (by sl_kernel_rfl) y

def out1_A_6  : Vec F S1x1 .f32 :=
  VO1_6.read (Elt F) (VO1_6.writes (Elt F) VO1_6.junk (kernelRun1_A c i arg2 harg2 arg3 harg3 arg4 harg4 arg5 harg5 arg6 harg6 arg7 harg7 arg8 harg8 hc0 hc1 hc2 x0 x1 x2 x3).2.2.1)

end Case1A

section Case1B
variable (c : Dev nD) (i : grid1.Coords) (arg2 : Memref sig .tc .vmem S1x10000x4 .f32) (harg2 : arg2.IsWhole) (arg3 : Memref sig .tc .vmem S1x10000x4 .f32) (harg3 : arg3.IsWhole) (arg4 : Memref sig .tc .vmem S10000x128 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i) (hc2 : ¬cond1_2 i)
    (x0 : Vec F S1x10000x4 .f32) (x1 : Vec F S1x10000x4 .f32) (x2 : Vec F S10000x128 .i32) (x3 : Vec F S1x1 .f32) (xo4 : Vec F S1x1 .f32) (xo6 : Vec F S1x1 .f32)
include c i arg2 harg2 arg3 harg3 arg4 harg4 arg5 harg5 arg6 harg6 arg7 harg7 arg8 harg8 hc0 hc1 hc2 x0 x1 x2 x3 xo4 xo6

set_option maxHeartbeats 1000000 in
/-- A point in between of the location call: count and location sum are added to what is there. -/
noncomputable def kernelRun1_B  :
    Σ' (L4 : List (View.Piece (Elt F) S1x1 .f32)), Σ' (L5 : List (View.Piece (Elt F) S1x1 .f32)), { L6 : List (View.Piece (Elt F) S1x1 .f32) //
      ∀ (xi5 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xi5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f L6)) -∗ K ⟨⟩))
          ⊢ wp frame (wpE (defs₀ (F := F)) Variants.none c none) E (cc1__loc_kernel i arg2 harg2 arg3 harg3 arg4 harg4 arg5 harg5 arg6 harg6 arg7 harg7 arg8 harg8) K } := by
  refine ⟨?_, [], ?_, fun xi5 E K => ?run⟩
  case run =>
    simp only [cc1__loc_kernel_eq_skeleton]; unfold cc1__loc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact H6

theorem cover1_B_4  (y : S1x1.Idx) :
    ∃ pc ∈ (kernelRun1_B c i arg2 harg2 arg3 harg3 arg4 harg4 arg5 harg5 arg6 harg6 arg7 harg7 arg8 harg8 hc0 hc1 hc2 x0 x1 x2 x3 xo4 xo6).1, y ∈ pc.1.set :=
  View.cover_of_tiledL (kernelRun1_B c i arg2 harg2 arg3 harg3 arg4 harg4 arg5 harg5 arg6 harg6 arg7 harg7 arg8 harg8 hc0 hc1 hc2 x0 x1 x2 x3 xo4 xo6).1 S1x1.size (by sl_kernel_rfl) y

def out1_B_4  : Vec F S1x1 .f32 :=
  VO1_4.read (Elt F) (VO1_4.writes (Elt F) VO1_4.junk (kernelRun1_B c i arg2 harg2 arg3 harg3 arg4 harg4 arg5 harg5 arg6 harg6 arg7 harg7 arg8 harg8 hc0 hc1 hc2 x0 x1 x2 x3 xo4 xo6).1)

def out1_B_5  : Vec F S1x1 .f32 :=
  VO1_5.read (Elt F) (VO1_5.writes (Elt F) VO1_5.junk (kernelRun1_B c i arg2 harg2 arg3 harg3 arg4 harg4 arg5 harg5 arg6 harg6 arg7 harg7 arg8 harg8 hc0 hc1 hc2 x0 x1 x2 x3 xo4 xo6).2.1)

theorem cover1_B_6  (y : S1x1.Idx) :
    ∃ pc ∈ (kernelRun1_B c i arg2 harg2 arg3 harg3 arg4 harg4 arg5 harg5 arg6 harg6 arg7 harg7 arg8 harg8 hc0 hc1 hc2 x0 x1 x2 x3 xo4 xo6).2.2.1, y ∈ pc.1.set :=
  View.cover_of_tiledL (kernelRun1_B c i arg2 harg2 arg3 harg3 arg4 harg4 arg5 harg5 arg6 harg6 arg7 harg7 arg8 harg8 hc0 hc1 hc2 x0 x1 x2 x3 xo4 xo6).2.2.1 S1x1.size (by sl_kernel_rfl) y

def out1_B_6  : Vec F S1x1 .f32 :=
  VO1_6.read (Elt F) (VO1_6.writes (Elt F) VO1_6.junk (kernelRun1_B c i arg2 harg2 arg3 harg3 arg4 harg4 arg5 harg5 arg6 harg6 arg7 harg7 arg8 harg8 hc0 hc1 hc2 x0 x1 x2 x3 xo4 xo6).2.2.1)

end Case1B

section Case1C
variable (c : Dev nD) (i : grid1.Coords) (arg2 : Memref sig .tc .vmem S1x10000x4 .f32) (harg2 : arg2.IsWhole) (arg3 : Memref sig .tc .vmem S1x10000x4 .f32) (harg3 : arg3.IsWhole) (arg4 : Memref sig .tc .vmem S10000x128 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i) (hc2 : cond1_2 i)
    (x0 : Vec F S1x10000x4 .f32) (x1 : Vec F S1x10000x4 .f32) (x2 : Vec F S10000x128 .i32) (x3 : Vec F S1x1 .f32) (xo4 : Vec F S1x1 .f32) (xo6 : Vec F S1x1 .f32)
include c i arg2 harg2 arg3 harg3 arg4 harg4 arg5 harg5 arg6 harg6 arg7 harg7 arg8 harg8 hc0 hc1 hc2 x0 x1 x2 x3 xo4 xo6

set_option maxHeartbeats 1000000 in
/-- The last point of the location call: the sums are completed and the three losses stored over them. -/
noncomputable def kernelRun1_C  :
    Σ' (L4 : List (View.Piece (Elt F) S1x1 .f32)), Σ' (L5 : List (View.Piece (Elt F) S1x1 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d) ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc1__loc_kernel i arg2 harg2 arg3 harg3 arg4 harg4 arg5 harg5 arg6 harg6 arg7 harg7 arg8 harg8) K } := by
  refine ⟨?_, ?_, ?_, fun E K => ?run⟩
  case run =>
    simp only [cc1__loc_kernel_eq_skeleton]; unfold cc1__loc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

theorem cover1_C_4  (y : S1x1.Idx) :
    ∃ pc ∈ (kernelRun1_C c i arg2 harg2 arg3 harg3 arg4 harg4 arg5 harg5 arg6 harg6 arg7 harg7 arg8 harg8 hc0 hc1 hc2 x0 x1 x2 x3 xo4 xo6).1, y ∈ pc.1.set :=
  View.cover_of_tiledL (kernelRun1_C c i arg2 harg2 arg3 harg3 arg4 harg4 arg5 harg5 arg6 harg6 arg7 harg7 arg8 harg8 hc0 hc1 hc2 x0 x1 x2 x3 xo4 xo6).1 S1x1.size (by sl_kernel_rfl) y

def out1_C_4  : Vec F S1x1 .f32 :=
  VO1_4.read (Elt F) (VO1_4.writes (Elt F) VO1_4.junk (kernelRun1_C c i arg2 harg2 arg3 harg3 arg4 harg4 arg5 harg5 arg6 harg6 arg7 harg7 arg8 harg8 hc0 hc1 hc2 x0 x1 x2 x3 xo4 xo6).1)

theorem cover1_C_5  (y : S1x1.Idx) :
    ∃ pc ∈ (kernelRun1_C c i arg2 harg2 arg3 harg3 arg4 harg4 arg5 harg5 arg6 harg6 arg7 harg7 arg8 harg8 hc0 hc1 hc2 x0 x1 x2 x3 xo4 xo6).2.1, y ∈ pc.1.set :=
  View.cover_of_tiledL (kernelRun1_C c i arg2 harg2 arg3 harg3 arg4 harg4 arg5 harg5 arg6 harg6 arg7 harg7 arg8 harg8 hc0 hc1 hc2 x0 x1 x2 x3 xo4 xo6).2.1 S1x1.size (by sl_kernel_rfl) y

def out1_C_5  : Vec F S1x1 .f32 :=
  VO1_5.read (Elt F) (VO1_5.writes (Elt F) VO1_5.junk (kernelRun1_C c i arg2 harg2 arg3 harg3 arg4 harg4 arg5 harg5 arg6 harg6 arg7 harg7 arg8 harg8 hc0 hc1 hc2 x0 x1 x2 x3 xo4 xo6).2.1)

theorem cover1_C_6  (y : S1x1.Idx) :
    ∃ pc ∈ (kernelRun1_C c i arg2 harg2 arg3 harg3 arg4 harg4 arg5 harg5 arg6 harg6 arg7 harg7 arg8 harg8 hc0 hc1 hc2 x0 x1 x2 x3 xo4 xo6).2.2.1, y ∈ pc.1.set :=
  View.cover_of_tiledL (kernelRun1_C c i arg2 harg2 arg3 harg3 arg4 harg4 arg5 harg5 arg6 harg6 arg7 harg7 arg8 harg8 hc0 hc1 hc2 x0 x1 x2 x3 xo4 xo6).2.2.1 S1x1.size (by sl_kernel_rfl) y

def out1_C_6  : Vec F S1x1 .f32 :=
  VO1_6.read (Elt F) (VO1_6.writes (Elt F) VO1_6.junk (kernelRun1_C c i arg2 harg2 arg3 harg3 arg4 harg4 arg5 harg5 arg6 harg6 arg7 harg7 arg8 harg8 hc0 hc1 hc2 x0 x1 x2 x3 xo4 xo6).2.2.1)

end Case1C

/-- What the three results of the location call hold after the body at position `n`. -/
def outsAt1 (c : Dev nD) : (n : ℕ) → n < cfg1.N → Vec F S1x1 .f32 × Vec F S1x1 .f32 × Vec F S1x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 32 = 0 then
      if h1 : 1 ≤ (n + 1) then
        False.elim (by have hN : n + 1 < 32 := lt_of_lt_of_eq hn (show cfg1.N = 32 from N_1); omega)
      else
        if h2 : (n + 1) % 32 = 31 then
          False.elim (by have hN : n + 1 < 32 := lt_of_lt_of_eq hn (show cfg1.N = 32 from N_1); omega)
        else
          (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : 1 ≤ (n + 1) then
        if h2 : (n + 1) % 32 = 31 then
          (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.2)
        else
          (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.2)
      else
        False.elim (by have hN : n + 1 < 32 := lt_of_lt_of_eq hn (show cfg1.N = 32 from N_1); omega)

theorem outsAt1_A (c : Dev nD) (t : Fin cfg1.N) (h0 : t.val % 32 = 0) (h1 : ¬1 ≤ t.val) (h2 : ¬t.val % 32 = 31) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (fun h => h1 ((hcond1_1 t).mp h)) (fun h => h2 ((hcond1_2 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (fun h => h1 ((hcond1_1 t).mp h)) (fun h => h2 ((hcond1_2 t).mp h)) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (fun h => h1 ((hcond1_1 t).mp h)) (fun h => h2 ((hcond1_2 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans ((dif_neg h2).trans rfl))

theorem outsAt1_B (c : Dev nD) (t : Fin cfg1.N) (h0 : ¬t.val % 32 = 0) (h1 : 1 ≤ t.val) (h2 : ¬t.val % 32 = 31) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) ((hcond1_1 t).mpr h1) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) ((hcond1_1 t).mpr h1) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) ((hcond1_1 t).mpr h1) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt1_C (c : Dev nD) (t : Fin cfg1.N) (h0 : ¬t.val % 32 = 0) (h1 : 1 ≤ t.val) (h2 : t.val % 32 = 31) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) ((hcond1_1 t).mpr h1) ((hcond1_2 t).mpr h2) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) ((hcond1_1 t).mpr h1) ((hcond1_2 t).mpr h2) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) ((hcond1_1 t).mpr h1) ((hcond1_2 t).mpr h2) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The proof data of the location call: every input keeps its block, the results are as `outsAt1` says. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem hcarry1_4 (c : Dev nD) : ∀ (t : Fin cfg1.N) (_ : t.val ≠ 0), cfg1.idle 4 (grid1.coords t) = true → cfg1.fresh 4 t.val = false →
    (dat1 V c).after 4 t = (dat1 V c).after 4 ⟨t.val - 1, by omega⟩ := by
  intro t _ hi _
  have hN : t.val < 32 := lt_of_lt_of_eq t.isLt (show cfg1.N = 32 from N_1)
  rw [after1_4, after1_4]
  by_cases h0 : t.val % 32 = 0
  · by_cases h1 : 1 ≤ t.val
    · exfalso; omega
    · by_cases h2 : t.val % 32 = 31
      · exfalso; omega
      · rw [liveAt1_4_A t ((hcond1_0 t).mpr h0) (fun h => h1 ((hcond1_1 t).mp h)) (fun h => h2 ((hcond1_2 t).mp h))] at hi
        exact absurd hi Bool.false_ne_true
  · by_cases h1 : 1 ≤ t.val
    · by_cases h2 : t.val % 32 = 31
      · rw [liveAt1_4_C t (fun h => h0 ((hcond1_0 t).mp h)) ((hcond1_1 t).mpr h1) ((hcond1_2 t).mpr h2)] at hi
        exact absurd hi Bool.false_ne_true
      · rw [liveAt1_4_B t (fun h => h0 ((hcond1_0 t).mp h)) ((hcond1_1 t).mpr h1) (fun h => h2 ((hcond1_2 t).mp h))] at hi
        exact absurd hi Bool.false_ne_true
    · exfalso; omega

theorem hcarry1_6 (c : Dev nD) : ∀ (t : Fin cfg1.N) (_ : t.val ≠ 0), cfg1.idle 6 (grid1.coords t) = true → cfg1.fresh 6 t.val = false →
    (dat1 V c).after 6 t = (dat1 V c).after 6 ⟨t.val - 1, by omega⟩ := by
  intro t _ hi _
  have hN : t.val < 32 := lt_of_lt_of_eq t.isLt (show cfg1.N = 32 from N_1)
  rw [after1_6, after1_6]
  by_cases h0 : t.val % 32 = 0
  · by_cases h1 : 1 ≤ t.val
    · exfalso; omega
    · by_cases h2 : t.val % 32 = 31
      · exfalso; omega
      · rw [liveAt1_6_A t ((hcond1_0 t).mpr h0) (fun h => h1 ((hcond1_1 t).mp h)) (fun h => h2 ((hcond1_2 t).mp h))] at hi
        exact absurd hi Bool.false_ne_true
  · by_cases h1 : 1 ≤ t.val
    · by_cases h2 : t.val % 32 = 31
      · rw [liveAt1_6_C t (fun h => h0 ((hcond1_0 t).mp h)) ((hcond1_1 t).mpr h1) ((hcond1_2 t).mpr h2)] at hi
        exact absurd hi Bool.false_ne_true
      · rw [liveAt1_6_B t (fun h => h0 ((hcond1_0 t).mp h)) ((hcond1_1 t).mpr h1) (fun h => h2 ((hcond1_2 t).mp h))] at hi
        exact absurd hi Bool.false_ne_true
    · exfalso; omega
theorem before1_4_B (c : Dev nD) (t : Fin cfg1.N) (h0 : ¬t.val % 32 = 0) (h1 : 1 ≤ t.val) (h2 : ¬t.val % 32 = 31) (d) :
    (dat1 V c).before 4 t d = (outsAt1 V c (t.val - 1) (Nat.lt_of_le_of_lt (Nat.sub_le _ _) t.isLt)).1 := by
  rw [Dat.before_out_traj _ 4 rfl (fun _ _ => rfl) (hcarry1_4 V c) t.val t rfl d,
    if_neg (by rw [notFresh1_4_B t (fun h => h0 ((hcond1_0 t).mp h)) ((hcond1_1 t).mpr h1) (fun h => h2 ((hcond1_2 t).mp h))]; exact Bool.false_ne_true)]
  dsimp only [dat1]
theorem before1_6_B (c : Dev nD) (t : Fin cfg1.N) (h0 : ¬t.val % 32 = 0) (h1 : 1 ≤ t.val) (h2 : ¬t.val % 32 = 31) (d) :
    (dat1 V c).before 6 t d = (outsAt1 V c (t.val - 1) (Nat.lt_of_le_of_lt (Nat.sub_le _ _) t.isLt)).2.2 := by
  rw [Dat.before_out_traj _ 6 rfl (fun _ _ => rfl) (hcarry1_6 V c) t.val t rfl d,
    if_neg (by rw [notFresh1_6_B t (fun h => h0 ((hcond1_0 t).mp h)) ((hcond1_1 t).mpr h1) (fun h => h2 ((hcond1_2 t).mp h))]; exact Bool.false_ne_true)]
  dsimp only [dat1]
theorem before1_4_C (c : Dev nD) (t : Fin cfg1.N) (h0 : ¬t.val % 32 = 0) (h1 : 1 ≤ t.val) (h2 : t.val % 32 = 31) (d) :
    (dat1 V c).before 4 t d = (outsAt1 V c (t.val - 1) (Nat.lt_of_le_of_lt (Nat.sub_le _ _) t.isLt)).1 := by
  rw [Dat.before_out_traj _ 4 rfl (fun _ _ => rfl) (hcarry1_4 V c) t.val t rfl d,
    if_neg (by rw [notFresh1_4_C t (fun h => h0 ((hcond1_0 t).mp h)) ((hcond1_1 t).mpr h1) ((hcond1_2 t).mpr h2)]; exact Bool.false_ne_true)]
  dsimp only [dat1]
theorem before1_6_C (c : Dev nD) (t : Fin cfg1.N) (h0 : ¬t.val % 32 = 0) (h1 : 1 ≤ t.val) (h2 : t.val % 32 = 31) (d) :
    (dat1 V c).before 6 t d = (outsAt1 V c (t.val - 1) (Nat.lt_of_le_of_lt (Nat.sub_le _ _) t.isLt)).2.2 := by
  rw [Dat.before_out_traj _ 6 rfl (fun _ _ => rfl) (hcarry1_6 V c) t.val t rfl d,
    if_neg (by rw [notFresh1_6_C t (fun h => h0 ((hcond1_0 t).mp h)) ((hcond1_1 t).mpr h1) ((hcond1_2 t).mpr h2)]; exact Bool.false_ne_true)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 1200000 in
/-- The body of the location call at any point, from what its buffers hold before to what they hold after. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  have hN : t.val < 32 := lt_of_lt_of_eq t.isLt (show cfg1.N = 32 from N_1)
  by_cases h0 : t.val % 32 = 0
  · by_cases h1 : 1 ≤ t.val
    · exfalso; omega
    · by_cases h2 : t.val % 32 = 31
      · exfalso; omega
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4_A t ((hcond1_0 t).mpr h0) (fun h => h1 ((hcond1_1 t).mp h)) (fun h => h2 ((hcond1_2 t).mp h))], after1_4]
        rw [Dat.leavesExact_idle (dat1 V c) 5 t (idleAt1_5_A t ((hcond1_0 t).mpr h0) (fun h => h1 ((hcond1_1 t).mp h)) (fun h => h2 ((hcond1_2 t).mp h))) (noFlush1_5_A t ((hcond1_0 t).mpr h0) (fun h => h1 ((hcond1_1 t).mp h)) (fun h => h2 ((hcond1_2 t).mp h)))]
        rw [show (dat1 V c).leavesExact 6 t = owns (c : Thread nD τ) (ms1_6 t) fullShare ((dat1 V c).after 6 t) from by
      unfold Dat.leavesExact; rw [liveAt1_6_A t ((hcond1_0 t).mpr h0) (fun h => h1 ((hcond1_1 t).mp h)) (fun h => h2 ((hcond1_2 t).mp h))], after1_6]
        rw [outsAt1_A V c t h0 h1 h2]
        unfold out1_A_4 out1_A_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexists _; iexact H6
        iintro ⟨H0, H1, H2, H3, ⟨%e4, H4⟩, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _ _)
        isplitl [H5]; · iexists _; iexact H5
        unfold owns; iexists _; isplitr
        swap; · iexact H6
        ipureintro; exact View.read_writes_of_cover _ _ _ _ _ (cover1_A_6 c _ _ _ _ _ _ _ _ _ _ _ _ _ _ _ _ _ _ _ _ _ _)
  · by_cases h1 : 1 ≤ t.val
    · by_cases h2 : t.val % 32 = 31
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4_C t (fun h => h0 ((hcond1_0 t).mp h)) ((hcond1_1 t).mpr h1) ((hcond1_2 t).mpr h2)], after1_4]
        rw [show (dat1 V c).leavesExact 5 t = owns (c : Thread nD τ) (ms1_5 t) fullShare ((dat1 V c).after 5 t) from by
      unfold Dat.leavesExact; rw [liveAt1_5_C t (fun h => h0 ((hcond1_0 t).mp h)) ((hcond1_1 t).mpr h1) ((hcond1_2 t).mpr h2)], after1_5]
        rw [show (dat1 V c).leavesExact 6 t = owns (c : Thread nD τ) (ms1_6 t) fullShare ((dat1 V c).after 6 t) from by
      unfold Dat.leavesExact; rw [liveAt1_6_C t (fun h => h0 ((hcond1_0 t).mp h)) ((hcond1_1 t).mpr h1) ((hcond1_2 t).mpr h2)], after1_6]
        rw [outsAt1_C V c t h0 h1 h2]
        simp only [before1_4_C V c t h0 h1 h2, before1_6_C V c t h0 h1 h2]
        unfold out1_C_4 out1_C_5 out1_C_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        iintro ⟨H0, H1, H2, H3, ⟨%e4, H4⟩, ⟨%e5, H5⟩, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _)
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _)
        unfold owns; iexists _; isplitr
        swap; · iexact H6
        ipureintro; exact View.read_writes_of_cover _ _ _ _ _ (cover1_C_6 c _ _ _ _ _ _ _ _ _ _ _ _ _ _ _ _ _ _ _ _ _ _ _ _)
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4_B t (fun h => h0 ((hcond1_0 t).mp h)) ((hcond1_1 t).mpr h1) (fun h => h2 ((hcond1_2 t).mp h))], after1_4]
        rw [Dat.leavesExact_idle (dat1 V c) 5 t (idleAt1_5_B t (fun h => h0 ((hcond1_0 t).mp h)) ((hcond1_1 t).mpr h1) (fun h => h2 ((hcond1_2 t).mp h))) (noFlush1_5_B t (fun h => h0 ((hcond1_0 t).mp h)) ((hcond1_1 t).mpr h1) (fun h => h2 ((hcond1_2 t).mp h)))]
        rw [show (dat1 V c).leavesExact 6 t = owns (c : Thread nD τ) (ms1_6 t) fullShare ((dat1 V c).after 6 t) from by
      unfold Dat.leavesExact; rw [liveAt1_6_B t (fun h => h0 ((hcond1_0 t).mp h)) ((hcond1_1 t).mpr h1) (fun h => h2 ((hcond1_2 t).mp h))], after1_6]
        rw [outsAt1_B V c t h0 h1 h2]
        simp only [before1_4_B V c t h0 h1 h2, before1_6_B V c t h0 h1 h2]
        unfold out1_B_4 out1_B_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, ⟨%e4, H4⟩, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_B_4 c _ _ _ _ _ _ _ _ _ _ _ _ _ _ _ _ _ _ _ _ _ _ _ _)
        isplitl [H5]; · iexists _; iexact H5
        unfold owns; iexists _; isplitr
        swap; · iexact H6
        ipureintro; exact View.read_writes_of_cover _ _ _ _ _ (cover1_B_6 c _ _ _ _ _ _ _ _ _ _ _ _ _ _ _ _ _ _ _ _ _ _ _ _)
    · exfalso; omega

theorem defs₀_row1 (t : Fin cfg1.N) :
    defs₀ (F := F) .tc cfg1.body (cfg1.bodyArgs t (cfg1.slots t)) = bodyAt1 t := by
  unfold defs₀; rw [Defs.onTc_tc]

/-- The same as the pipeline asks it. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.KernelIdeal.Run.lean ====
/- The run of the whole program: what every buffer holds at each boundary, and that the arguments end as they were. -/
module

public import proofs.«01_k».proof.Proof.KernelIdeal.Conf
public import proofs.«01_k».proof.Proof.KernelIdeal.Loc

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arguments' buffers. -/
abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
abbrev hostOps0_W : List (Ref sig .tc) := [main_call0_v0, main_call0_v1, main_call0_v2, main_call0_c, main_call0_call0_v0, main_call0_v3]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v0_0, main_v0_1, main_v0_2]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffers after the host's operations before the calls. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers after the confidence call: its array as its pipeline leaves it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the location call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The buffers after the host's last operations. -/
abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)

abbrev adm : (p : Fin 2) → (pcfgs (F := F) p).Adm := fun p => (cfgs p).toPCfg_adm
/-- Every pipeline's proof data at its call's entry. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- The confidence call as a segment of the run: its arrays are split out of the buffers, `conf_preds` dealt among its eight windows, and put back. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The location call as a segment of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The run: host operations, two calls, host operations. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is that run. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- THE RUN: it ends, every buffer of the host holding what `W4` says and every counter at zero. -/
theorem ran : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: the run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c)⟩, h.2⟩) (ran m ρ)

end Cert.KernelIdeal.Own

end
-- ==== Proof.Frames.lean ====
/- The claims that speak of no value: every program ends with its arguments as they were and every counter at zero, and
   each constant that the idealized kernel names has the value it is named for. -/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Own

/-- The facts that the precondition's function states about its shapes. -/
instance preFacts : Cert.Pre_finite_conf.Facts where
  bcast_S_S16x20000x81 := by decide
  reducesTo_S16x20000x81_S_d0_1_2 := by decide
  h_S_ := by decide

/-- The kernel ends, with its arguments kept. -/
theorem frame_kernel : Cert.quiescent_Kernel := fun m ρ _ => Cert.Kernel.Own.frame m ρ

/-- The idealized kernel ends, with its arguments kept. -/
theorem frame_kernelIdeal : Cert.quiescent_KernelIdeal := fun m ρ _ => Cert.KernelIdeal.Own.frame m ρ

/-- The same from the arguments that the precondition admits. -/
theorem frame_kernelIdeal_pre : Cert.quiescent_KernelIdeal_pre_finite_conf := fun m ρ _ =>
  Cert.KernelIdeal.Own.frame m ρ

/-- The reference, from any memory: it has no counters at all. -/
theorem frame_reference_any (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2.2.2, sem_eq_zero_of_no_sems (by decide) r.2⟩)
    (Cert.ReferenceIdeal.Value.run (F := Ideal) m ρ)

/-- The reference ends, with its arguments kept. -/
theorem frame_reference : Cert.quiescent_ReferenceIdeal := fun m ρ _ => frame_reference_any m ρ

/-- The same from the arguments that the precondition admits. -/
theorem frame_reference_pre : Cert.quiescent_ReferenceIdeal_pre_finite_conf := fun m ρ _ => frame_reference_any m ρ

/-- The two named constants, `1/ln 2` and `-(1/2)·ln 2`, have their values in the certificate's table. -/
theorem preserves : Cert.preserves_Kernel_KernelIdeal :=
  ⟨IdealRules.named_const.statement Cert.KernelIdeal.κ "inv_ln2" .f32 0x3FB8AA3B#32 (((Real.log 2)⁻¹ : ℝ) : EReal) rfl,
   IdealRules.named_const.statement Cert.KernelIdeal.κ "neg_half_ln2" .f32 0xBEB17218#32 (((-1 / 2) * (Real.log 2) : ℝ) : EReal) rfl⟩

end Cert.Own

end
-- ==== Proof.RefTerms.lean ====
/- The reference's results, in named steps: the class indicator, the focal terms and their sum, the smooth-L1 terms and
   their sum, and the count; each of them read at one index. -/
module

public import proofs.«01_k».proof.Proof.Gen.ReferenceIdeal
public import proofs.«01_k».proof.Proof.Gen.ReferenceIdeal.Run
public import Idealize.ShloMosaic.Lib.Pipeline.ValueKit

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.Tactic
open Idealize.SL.Sem

/-- A constant over the flat scores. -/
abbrev flatC (b : BitVec 32) : FVec Ideal S320000x81 .f32 :=
  broadcastInDim S320000x81 ![] bcast_S_S320000x81 (constant S_ .f32 b)

/-- A constant over the boxes. -/
abbrev boxC (b : BitVec 32) : FVec Ideal S16x20000x4 .f32 :=
  broadcastInDim S16x20000x4 ![] bcast_S_S16x20000x4 (constant S_ .f32 b)

/-- Where an object is: its class is positive. -/
def isPos (ct : IVec S16x20000 32) : IVec S16x20000 1 :=
  cmpi .sgt ct (broadcastInDim S16x20000 ![] bcast_S_S16x20000 (constantI S_ 32 0#32))

/-- The class indicator of the flat scores. -/
def target (ct : IVec S16x20000 32) : FVec Ideal S320000x81 .f32 :=
  mulf (uitofp .f32 (cmpi .eq (broadcastInDim S320000x81 ![0, 1] bcast_S320000x1_S320000x81_0_1 (broadcastInDim S320000x1 ![0] bcast_S320000_S320000x1_0 (shapeCast _ ct shapeCasts_S16x20000_S320000))) (broadcastInDim S320000x81 ![0, 1] bcast_S1x81_S320000x81_0_1 (iotaInDim S1x81 32 1)))) (broadcastInDim S320000x81 ![0, 1] bcast_S320000x1_S320000x81_0_1 (broadcastInDim S320000x1 ![0] bcast_S320000_S320000x1_0 (uitofp .f32 (shapeCast _ (isPos ct) shapeCasts_S16x20000_S320000))))

/-- The scores, flat. -/
def flat (cp : FVec Ideal S16x20000x81 .f32) : FVec Ideal S320000x81 .f32 := shapeCast _ cp shapeCasts_S16x20000x81_S320000x81

/-- The focal terms out of the indicator `t` and the flat scores `p`. -/
def focalOf (t p : FVec Ideal S320000x81 .f32) : FVec Ideal S320000x81 .f32 :=
  mulf (mulf (id (select (cmpf .oeq t (flatC 0x3F800000#32)) (flatC 0x3F000000#32) (flatC 0x3F000000#32)))
      (Host.powf (select (cmpf .oeq t (flatC 0x3F800000#32)) (subf (flatC 0x3F800000#32) p) p) (flatC 0x40000000#32)))
    (Host.negf (addf (mulf t (Host.log (addf (flatC 0x358637BD#32) p)))
      (mulf (subf (flatC 0x3F800000#32) t) (Host.log (addf (subf (flatC 0x3F800000#32) p) (flatC 0x358637BD#32))))))

/-- The sum of the focal terms. -/
def confSum (cp : FVec Ideal S16x20000x81 .f32) (ct : IVec S16x20000 32) : FVec Ideal S_ .f32 :=
  Host.reduceAdd (focalOf (target ct) (flat cp)) (constant S_ .f32 0x00000000#32) reducesTo_S320000x81_S_d0_1 h_S_

/-- How many objects there are, as a float. -/
def count (ct : IVec S16x20000 32) : FVec Ideal S_ .f32 :=
  sitofp .f32 (Host.reduce IntOp.addi (extui 32 (isPos ct) natLt_1_32) (constantI S_ 32 0#32) reducesTo_S16x20000_S_d0_1 h_S_)

/-- The smooth-L1 terms of the boxes' differences, kept where an object is. -/
def locTerm (lp lt : FVec Ideal S16x20000x4 .f32) (ct : IVec S16x20000 32) : FVec Ideal S16x20000x4 .f32 :=
  mulf (select (cmpf .olt (Host.absf (subf lp lt)) (boxC 0x3F800000#32))
      (mulf (mulf (boxC 0x3F000000#32) (Host.absf (subf lp lt))) (Host.absf (subf lp lt)))
      (subf (Host.absf (subf lp lt)) (boxC 0x3F000000#32)))
    (broadcastInDim S16x20000x4 ![0, 1, 2] bcast_S16x20000x1_S16x20000x4_0_1_2 (broadcastInDim S16x20000x1 ![0, 1] bcast_S16x20000_S16x20000x1_0_1 (uitofp .f32 (isPos ct))))

/-- Their sum. -/
def locSum (lp lt : FVec Ideal S16x20000x4 .f32) (ct : IVec S16x20000 32) : FVec Ideal S_ .f32 :=
  Host.reduceAdd (locTerm lp lt ct) (constant S_ .f32 0x00000000#32) reducesTo_S16x20000x4_S_d0_1_2 h_S_

/-- The confidence loss. -/
def confLoss (cp : FVec Ideal S16x20000x81 .f32) (ct : IVec S16x20000 32) : FVec Ideal S_ .f32 :=
  Host.divf (confSum cp ct) (count ct)

/-- The location loss. -/
def locLoss (lp lt : FVec Ideal S16x20000x4 .f32) (ct : IVec S16x20000 32) : FVec Ideal S_ .f32 :=
  Host.divf (locSum lp lt ct) (count ct)

/-- The total loss. -/
def totalLoss (lp lt : FVec Ideal S16x20000x4 .f32) (cp : FVec Ideal S16x20000x81 .f32) (ct : IVec S16x20000 32) : FVec Ideal S_ .f32 :=
  addf (mulf (constant S_ .f32 0x3F000000#32) (confLoss cp ct)) (mulf (constant S_ .f32 0x3F000000#32) (locLoss lp lt ct))

/-- THE REFERENCE'S RUN in these words. -/
theorem ran (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60) = totalLoss (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v57) = confLoss (m ((c.tc : Thread nD τ).loc main_arg2)) (m ((c.tc : Thread nD τ).loc main_arg3))
      ∧ r.2.mem ((c.tc : Thread nD τ).loc main_v20) = locLoss (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by unfold res_main_v60; rfl), (h c).2.1.trans (by unfold res_main_v57; rfl),
    (h c).2.2.1.trans (by rfl), (h c).2.2.2⟩) (run (F := Ideal) m ρ)

end Cert.ReferenceIdeal.Own

end
-- ==== Proof.Terms.lean ====
/- The losses' terms as functions of extended reals, with no program in sight: a focal term of the kernel and of the
   reference, and that one is a fixed real multiple of the other wherever the score is finite. -/
module

public import Idealize.ShloMosaic.PureOps.Ideal
public import Idealize.ShloMosaic.Lib.Pipeline.ValueKit

@[expose] public section

noncomputable section

namespace Cert.Own

open Idealize.ShloMosaic

/-- Lane `k` is the class `c`, and the class is an object's. -/
def hot (k : ℕ) (c : BitVec 32) : BitVec 1 :=
  IntOp.andi (IntOp.cmpi .eq (BitVec.ofNat 32 k) c) (IntOp.cmpi .sgt c 0#32)

/-- The class is an object's, as a number. -/
def posE (c : BitVec 32) : EReal := FloatOps.uitofp (F := Ideal) .f32 (IntOp.cmpi .sgt c 0#32)

/-- The small number inside the logarithms. -/
def eps : EReal := Ideal.ofBits .f32 897988541#32

/-- A focal term of the kernel: at the class `h`, score `p`. -/
def kTerm (h : BitVec 1) (p : EReal) : EReal :=
  Scalar.select h (1 - p) p * Scalar.select h (1 - p) p *
    (Ideal.log (Scalar.select h p (1 - p) + eps) * (((Real.log 2)⁻¹ : ℝ) : EReal))

/-- A focal term of the reference: at the indicator `t`, score `p`. -/
def rTerm (t p : EReal) : EReal :=
  Ideal.ofBits .f32 1056964608#32 * Ideal.pow (if t = 1 then 1 - p else p) (Ideal.ofBits .f32 1073741824#32) *
    -(t * Ideal.log (eps + p) + (1 - t) * Ideal.log (1 - p + eps))

/-- The kernel's constant factor, `-(1/2) · ln 2`. -/
def factor : EReal := (((-1 / 2) * (Real.log 2) : ℝ) : EReal)

/-- The smooth-L1 term of a difference. -/
def sl1 (d : EReal) : EReal :=
  if FloatOps.absf (F := Ideal) (φ := .f32) d < 1 then Ideal.ofBits .f32 1056964608#32 * FloatOps.absf (F := Ideal) (φ := .f32) d * FloatOps.absf (F := Ideal) (φ := .f32) d
  else FloatOps.absf (F := Ideal) (φ := .f32) d - Ideal.ofBits .f32 1056964608#32

theorem half_eq : Ideal.ofBits .f32 1056964608#32 = ((1 / 2 : ℝ) : EReal) := by
  simp [Ideal.ofBits, Ideal.ieee, -EReal.coe_mul]; norm_num

theorem two_eq : Ideal.ofBits .f32 1073741824#32 = ((2 : ℝ) : EReal) := by
  simp [Ideal.ofBits, Ideal.ieee, -EReal.coe_mul]; norm_num

theorem eps_eq : ∃ e : ℝ, eps = (e : EReal) := by
  unfold eps
  simp only [Ideal.ofBits, Ideal.ieee]
  norm_num [-EReal.coe_mul]
  exact ⟨_, rfl⟩

theorem bit_cases (b : BitVec 1) : b = 0#1 ∨ b = 1#1 := by revert b; decide

theorem uitofp_bit (b : BitVec 1) : FloatOps.uitofp (F := Ideal) .f32 b = if b = 1#1 then 1 else 0 := by
  rcases bit_cases b with rfl | rfl <;> simp [FloatOps.uitofp]

/-- The logarithm of a real is a real or `-∞`. -/
theorem log_coe (r : ℝ) : Ideal.log (r : EReal) = ⊥ ∨ ∃ l : ℝ, Ideal.log (r : EReal) = (l : EReal) := by
  show (if r ≤ 0 then ⊥ else (Real.log r : EReal)) = ⊥ ∨ ∃ l : ℝ, (if r ≤ 0 then ⊥ else (Real.log r : EReal)) = l
  split
  · exact .inl rfl
  · exact .inr ⟨_, rfl⟩

theorem ln2_pos : 0 < Real.log 2 := Real.log_pos (by norm_num)

/-- The square, by the reference's power. -/
theorem pow_two_coe (q : ℝ) : Ideal.pow (q : EReal) (Ideal.ofBits .f32 1073741824#32) = ((q * q : ℝ) : EReal) := by
  rw [two_eq]
  show ((Real.rpow q 2 : ℝ) : EReal) = _
  congr 1
  show q ^ (2 : ℝ) = q * q
  rw [show (2 : ℝ) = ((2 : ℕ) : ℝ) by norm_num, Real.rpow_natCast]; ring

/-- With real weight `q` and logarithm `L` (a real or `-∞`): the reference's term is `factor` times the kernel's. -/
theorem core_term (q : ℝ) (L : EReal) (hL : L = ⊥ ∨ ∃ l : ℝ, L = (l : EReal)) :
    ((1 / 2 : ℝ) : EReal) * ((q * q : ℝ) : EReal) * -L
      = factor * (((q : EReal) * (q : EReal)) * (L * (((Real.log 2)⁻¹ : ℝ) : EReal))) := by
  have h2 := ln2_pos
  unfold factor
  rcases hL with rfl | ⟨l, rfl⟩
  · have hI : (0 : ℝ) < (Real.log 2)⁻¹ := inv_pos.mpr h2
    rw [EReal.bot_mul_coe_of_pos hI, EReal.neg_bot, ← EReal.coe_mul, ← EReal.coe_mul]
    rcases eq_or_ne q 0 with rfl | hq
    · simp
    · have hqq : 0 < q * q := mul_self_pos.mpr hq
      rw [EReal.coe_mul_top_of_pos (by positivity), EReal.coe_mul_bot_of_pos hqq, EReal.coe_mul_bot_of_neg (by nlinarith)]
  · rw [← EReal.coe_neg, ← EReal.coe_mul, ← EReal.coe_mul, ← EReal.coe_mul, ← EReal.coe_mul, ← EReal.coe_mul, ← EReal.coe_mul]
    congr 1
    field_simp

/-- The kernel's term is never `+∞` where the score is finite. -/
theorem kTerm_ne_top (h : BitVec 1) (r : ℝ) : kTerm h (r : EReal) ≠ ⊤ := by
  obtain ⟨e, he⟩ := eps_eq
  have key : ∀ q w : ℝ, (q : EReal) * (q : EReal) * (Ideal.log ((w : EReal) + eps) * (((Real.log 2)⁻¹ : ℝ) : EReal)) ≠ ⊤ := by
    intro q w
    have hI : (0 : ℝ) < (Real.log 2)⁻¹ := inv_pos.mpr ln2_pos
    rw [he, ← EReal.coe_add, ← EReal.coe_mul]
    rcases log_coe (w + e) with h | ⟨l, h⟩ <;> rw [h]
    · rw [EReal.bot_mul_coe_of_pos hI]
      rcases eq_or_ne q 0 with rfl | hq
      · simp
      · rw [EReal.coe_mul_bot_of_pos (mul_self_pos.mpr hq)]; exact bot_ne_top
    · rw [← EReal.coe_mul, ← EReal.coe_mul]; exact EReal.coe_ne_top _
  unfold kTerm
  have h1 : (1 : EReal) - (r : EReal) = ((1 - r : ℝ) : EReal) := by norm_cast
  rcases bit_cases h with rfl | rfl
  · simp only [Scalar.select, h1]; exact key _ _
  · simp only [Scalar.select, h1]; exact key _ _

/-- The reference's term is `factor` times the kernel's, where the score is finite. -/
theorem rTerm_eq (h : BitVec 1) (r : ℝ) :
    rTerm (if h = 1#1 then 1 else 0) (r : EReal) = factor * kTerm h (r : EReal) := by
  obtain ⟨e, he⟩ := eps_eq
  have h1 : (1 : EReal) - (r : EReal) = ((1 - r : ℝ) : EReal) := by norm_cast
  have h11 : (1 : EReal) - 1 = 0 := by
    rw [← EReal.coe_one, ← EReal.coe_sub, sub_self, EReal.coe_zero]
  unfold rTerm kTerm
  rcases bit_cases h with rfl | rfl
  · have c : ¬ (0#1 = 1#1) := by decide
    simp only [Scalar.select, if_neg c, h1, zero_ne_one, if_false, zero_mul, zero_add, sub_zero, one_mul]
    rw [pow_two_coe, half_eq, he, ← EReal.coe_add]
    exact core_term _ _ (log_coe _)
  · simp only [Scalar.select, if_true, h1, h11, zero_mul, add_zero, one_mul]
    rw [pow_two_coe, half_eq, he, add_comm (e : EReal), ← EReal.coe_add]
    exact core_term _ _ (log_coe _)

/-- A real factor goes into a sum of two that are not `+∞`. -/
theorem coe_mul_add (a : ℝ) {x y : EReal} (hx : x ≠ ⊤) (hy : y ≠ ⊤) : (a : EReal) * (x + y) = a * x + a * y := by
  induction x with
  | top => exact absurd rfl hx
  | bot =>
    rw [EReal.bot_add]
    rcases lt_trichotomy a 0 with ha | rfl | ha
    · rw [EReal.coe_mul_bot_of_neg ha]
      induction y with
      | top => exact absurd rfl hy
      | bot => rw [EReal.coe_mul_bot_of_neg ha]; rfl
      | coe y => rw [← EReal.coe_mul, EReal.top_add_coe]
    · simp
    · rw [EReal.coe_mul_bot_of_pos ha, EReal.bot_add]
  | coe x =>
    induction y with
    | top => exact absurd rfl hy
    | bot =>
      rw [EReal.add_bot]
      rcases lt_trichotomy a 0 with ha | rfl | ha
      · rw [EReal.coe_mul_bot_of_neg ha, ← EReal.coe_mul, EReal.coe_add_top]
      · simp
      · rw [EReal.coe_mul_bot_of_pos ha, EReal.add_bot]
    | coe y => rw [← EReal.coe_add, ← EReal.coe_mul, ← EReal.coe_mul, ← EReal.coe_mul, ← EReal.coe_add, mul_add]

/-- A sum of what is not `+∞` is not `+∞`. -/
theorem sum_ne_top {ι : Type} (s : Finset ι) (f : ι → EReal) (hf : ∀ i, f i ≠ ⊤) : ∑ i ∈ s, f i ≠ ⊤ := by
  classical
  induction s using Finset.induction_on with
  | empty => simp
  | insert i s hi ih => rw [Finset.sum_insert hi]; exact (EReal.add_ne_top (hf i) ih)

/-- A real factor goes into a sum of what is not `+∞`. -/
theorem coe_mul_sum {ι : Type} (a : ℝ) (s : Finset ι) (f : ι → EReal) (hf : ∀ i, f i ≠ ⊤) :
    (a : EReal) * ∑ i ∈ s, f i = ∑ i ∈ s, (a : EReal) * f i := by
  classical
  induction s using Finset.induction_on with
  | empty => simp
  | insert i s hi ih => rw [Finset.sum_insert hi, Finset.sum_insert hi, coe_mul_add a (hf i) (sum_ne_top s f hf), ih]

/-- An indicator goes into a sum. -/
theorem sum_mul_posE {n : ℕ} (f : Fin n → EReal) (c : BitVec 32) : (∑ k, f k) * posE c = ∑ k, f k * posE c := by
  unfold posE
  rw [uitofp_bit]
  split <;> simp

end Cert.Own

end
-- ==== Proof.RefSums.lean ====
module

public import proofs.«01_k».proof.Proof.RefTerms
public import proofs.«01_k».proof.Proof.Terms

/-! The reference's three sums over images and anchors: the focal terms (`factor` times the kernel's), the
smooth-L1 terms and the count of the objects. -/

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.Tactic
open Idealize.SL.Sem Cert.Own

theorem target_apply (ct : IVec S16x20000 32) (n : Fin 320000) (k : Fin 81) (h1 : n.val / 20000 < 16) (h2 : n.val % 20000 < 20000) :
    target ct (ix2 n k) = if hot k.val (ct (ix2 ⟨n.val / 20000, h1⟩ ⟨n.val % 20000, h2⟩)) = 1#1 then 1 else 0 := by
  have e : target ct (ix2 n k) = FloatOps.uitofp (F := Ideal) .f32 (IntOp.cmpi .eq (ct (ix2 ⟨n.val / 20000, h1⟩ ⟨n.val % 20000, h2⟩)) (BitVec.ofNat 32 k.val))
      * posE (ct (ix2 ⟨n.val / 20000, h1⟩ ⟨n.val % 20000, h2⟩)) := by
    unfold posE
    pointwise [target, isPos]
  rw [e]
  generalize ct (ix2 ⟨n.val / 20000, h1⟩ ⟨n.val % 20000, h2⟩) = c
  have hs : IntOp.cmpi .eq c (BitVec.ofNat 32 k.val) = IntOp.cmpi .eq (BitVec.ofNat 32 k.val) c := by
    simp [IntOp.cmpi, eq_comm, Bool.beq_comm]
  unfold posE hot
  rw [hs, uitofp_bit, uitofp_bit]
  rcases bit_cases (IntOp.cmpi .eq (BitVec.ofNat 32 k.val) c) with h | h <;> rcases bit_cases (IntOp.cmpi .sgt c 0#32) with h' | h' <;> rw [h, h'] <;> simp [IntOp.andi]

theorem flat_apply (cp : FVec Ideal S16x20000x81 .f32) (n : Fin 320000) (k : Fin 81) (h1 : n.val / 20000 < 16) (h2 : n.val % 20000 < 20000) :
    flat cp (ix2 n k) = cp (ix3 ⟨n.val / 20000, h1⟩ ⟨n.val % 20000, h2⟩ k) := by
  pointwise [flat]

theorem focalOf_apply (t p : FVec Ideal S320000x81 .f32) (n : Fin 320000) (k : Fin 81) :
    focalOf t p (ix2 n k) = rTerm (t (ix2 n k)) (p (ix2 n k)) := by
  have e : id (select (cmpf .oeq t (flatC 0x3F800000#32)) (flatC 0x3F000000#32) (flatC 0x3F000000#32)) (ix2 n k) = Ideal.ofBits .f32 1056964608#32 := by
    simp only [id, select, Scalar.select]
    exact ite_self _
  pointwise [focalOf]
  rw [e]
  rfl

theorem confSum_apply (cp : FVec Ideal S16x20000x81 .f32) (ct : IVec S16x20000 32) (j : S_.Idx) :
    confSum cp ct j = ∑ n : Fin 320000, ∑ k : Fin 81, focalOf (target ct) (flat cp) (ix2 n k) := by
  pointwise [confSum]

/-- The reference's sum of focal terms is `factor` times the kernel's. -/
theorem confSum_eq (cp : FVec Ideal S16x20000x81 .f32) (ct : IVec S16x20000 32) (hfin : ∀ i, ∃ r : ℝ, cp i = (r : EReal)) (j : S_.Idx) :
    confSum cp ct j = factor * ∑ b : Fin 16, ∑ r : Fin 20000, ∑ k : Fin 81, kTerm (hot k.val (ct (ix2 b r))) (cp (ix3 b r k)) := by
  have hne : ∀ (h : BitVec 1) i, kTerm h (cp i) ≠ ⊤ := fun h i => by
    obtain ⟨r, hr⟩ := hfin i
    rw [hr]; exact kTerm_ne_top h r
  rw [confSum_apply]
  unfold factor
  rw [coe_mul_sum _ _ _ fun b => sum_ne_top _ _ fun r => sum_ne_top _ _ fun k => hne _ _]
  refine Fin.sum_divmod_congr (A := 16) (S := 20000) (f := fun b r => _) (fun n h1 h2 => ?_) |>.trans
    (Finset.sum_congr rfl fun b _ => (coe_mul_sum _ _ _ fun r => sum_ne_top _ _ fun k => hne _ _).symm)
  rw [coe_mul_sum _ _ _ fun k => hne _ _]
  refine Finset.sum_congr rfl fun k _ => ?_
  rw [focalOf_apply, target_apply ct n k h1 h2, flat_apply cp n k h1 h2]
  obtain ⟨r, hr⟩ := hfin (ix3 ⟨n.val / 20000, h1⟩ ⟨n.val % 20000, h2⟩ k)
  rw [hr]
  exact rTerm_eq _ r

/-- The reference's sum of smooth-L1 terms. -/
theorem locSum_eq (lp lt : FVec Ideal S16x20000x4 .f32) (ct : IVec S16x20000 32) (j : S_.Idx) :
    locSum lp lt ct j = ∑ b : Fin 16, ∑ r : Fin 20000, (∑ k : Fin 4, sl1 (lp (ix3 b r k) - lt (ix3 b r k))) * posE (ct (ix2 b r)) := by
  simp only [sum_mul_posE]
  unfold posE sl1
  pointwise [locSum, locTerm, isPos]

/-- Bits added up in a word: their number, as long as the word can hold it. -/
theorem fold_bits {ι : Type} (s : Finset ι) (f : ι → BitVec 1) :
    s.fold IntOp.addi 0#32 (fun i => BitVec.setWidth 32 (f i)) = BitVec.ofNat 32 (∑ i ∈ s, (f i).toNat) := by
  classical
  induction s using Finset.induction_on with
  | empty => simp
  | insert a s ha ih =>
    rw [Finset.fold_insert ha, Finset.sum_insert ha, ih]
    apply BitVec.eq_of_toNat_eq
    simp [IntOp.addi, BitVec.toNat_add, Nat.add_mod]

/-- A sum of naturals, as a float. -/
theorem sum_natCast {ι : Type} (s : Finset ι) (f : ι → ℕ) :
    ∑ i ∈ s, (((f i : ℕ) : ℝ) : EReal) = (((∑ i ∈ s, f i : ℕ) : ℝ) : EReal) := by
  classical
  induction s using Finset.induction_on with
  | empty => simp
  | insert a s ha ih => rw [Finset.sum_insert ha, Finset.sum_insert ha, ih, Nat.cast_add, EReal.coe_add]

/-- The reference's count. -/
theorem count_apply (ct : IVec S16x20000 32) (j : S_.Idx) :
    count ct j = ∑ b : Fin 16, ∑ r : Fin 20000, posE (ct (ix2 b r)) := by
  unfold posE
  pointwise [count, isPos]
  rw [fold_bits]
  have hle : ∑ i : Fin 16 × Fin 20000, (IntOp.cmpi .sgt (ct (ix2 i.1 i.2)) 0#32).toNat ≤ 320000 := by
    refine (Finset.sum_le_card_nsmul _ _ 1 fun i _ => ?_).trans (by simp)
    have := (IntOp.cmpi .sgt (ct (ix2 i.1 i.2)) 0#32).isLt
    omega
  have hr : ∑ b : Fin 16, ∑ r : Fin 20000, FloatOps.uitofp (F := Ideal) .f32 (IntOp.cmpi .sgt (ct (ix2 b r)) 0#32)
      = (((∑ i : Fin 16 × Fin 20000, (IntOp.cmpi .sgt (ct (ix2 i.1 i.2)) 0#32).toNat : ℕ) : ℝ) : EReal) := by
    rw [← Fintype.sum_prod_type' (fun b r => FloatOps.uitofp (F := Ideal) .f32 (IntOp.cmpi .sgt (ct (ix2 b r)) 0#32))]
    exact sum_natCast _ _
  refine Eq.trans ?_ hr.symm
  generalize ∑ i : Fin 16 × Fin 20000, (IntOp.cmpi .sgt (ct (ix2 i.1 i.2)) 0#32).toNat = n at hle
  have hi : (BitVec.ofNat 32 n).toInt = (n : ℤ) := by
    rw [BitVec.toInt_eq_toNat_of_lt] <;> simp only [BitVec.toNat_ofNat] <;> omega
  show ((((BitVec.ofNat 32 n).toInt : ℤ) : ℝ) : EReal) = _
  rw [hi, Int.cast_natCast]

end Cert.ReferenceIdeal.Own

end
-- ==== Proof.KernelIdeal.ConfStep.lean ====
/- What the confidence call's body leaves in its sum: the eight planes' partial sum, alone at the first point and added
   to what was there at every later one. -/
module

public import proofs.«01_k».proof.Proof.KernelIdeal.Conf
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL.Sem

variable {F : FTy → Type} [FloatOps F] [Named F]

/-- The lane numbers, as the body makes them. -/
abbrev lanes : IVec S2000x81 32 := iota .tc S2000x81 32 [1] iota_S2000x81_d1_w32

/-- The partial sum of one point: the eight planes `x0 … x7`, with the classes `x8` of their rows. -/
def confPart (x0 x1 x2 x3 x4 x5 x6 x7 : Vec F S1x2000x81 .f32) (x8 : Vec F S2000x128 .i32) : FVec F S1x1 .f32 :=
  k0_pay1 (k0_pay18 (k0_pay14 (k0_pay3 x8) lanes
    (k0_pay8 (k0_pay3 x8) lanes (k0_pay7 (k0_pay3 x8) lanes (k0_pay4 x8 x0) (k0_pay5 x1) (k0_pay6 x8) (Scalar.ofBits .f32 0x3F800000#32) x2) x3)
    (k0_pay11 (k0_pay3 x8) lanes x4) (k0_pay12 (k0_pay3 x8) lanes x4) k0_pay13 x5)
    (k0_pay15 x6) (k0_pay16 (k0_pay3 x8)) (k0_pay17 (k0_pay3 x8) lanes) 0#32) (k0_pay19 (k0_pay3 x8) lanes x7)

theorem zero2 : (![0, 0] : Fin 2 → Nat) = fun _ => 0 := funext fun a => by fin_cases a <;> rfl
theorem zero3 : (![0, 0, 0] : Fin 3 → Nat) = fun _ => 0 := funext fun a => by fin_cases a <;> rfl

section CaseA
variable (c : Dev nD) (i : grid0.Coords) (arg2 : Memref sig .tc .vmem S1x2000x81 .f32) (harg2 : arg2.IsWhole) (arg3 : Memref sig .tc .vmem S1x2000x81 .f32) (harg3 : arg3.IsWhole) (arg4 : Memref sig .tc .vmem S1x2000x81 .f32) (harg4 : arg4.IsWhole) (arg5 : Memref sig .tc .vmem S1x2000x81 .f32) (harg5 : arg5.IsWhole) (arg6 : Memref sig .tc .vmem S1x2000x81 .f32) (harg6 : arg6.IsWhole) (arg7 : Memref sig .tc .vmem S1x2000x81 .f32) (harg7 : arg7.IsWhole) (arg8 : Memref sig .tc .vmem S1x2000x81 .f32) (harg8 : arg8.IsWhole) (arg9 : Memref sig .tc .vmem S1x2000x81 .f32) (harg9 : arg9.IsWhole) (arg10 : Memref sig .tc .vmem S2000x128 .i32) (harg10 : arg10.IsWhole) (arg11 : Memref sig .tc .vmem S1x1 .f32) (harg11 : arg11.IsWhole) (hc0 : cond0_0 i) (hc1 : ¬cond0_1 i)
    (x0 : Vec F S1x2000x81 .f32) (x1 : Vec F S1x2000x81 .f32) (x2 : Vec F S1x2000x81 .f32) (x3 : Vec F S1x2000x81 .f32) (x4 : Vec F S1x2000x81 .f32) (x5 : Vec F S1x2000x81 .f32) (x6 : Vec F S1x2000x81 .f32) (x7 : Vec F S1x2000x81 .f32) (x8 : Vec F S2000x128 .i32)

/-- The first point leaves its partial sum. -/
theorem out0_A_eq : out0_A_9 c i arg2 harg2 arg3 harg3 arg4 harg4 arg5 harg5 arg6 harg6 arg7 harg7 arg8 harg8 arg9 harg9 arg10 harg10 arg11 harg11 hc0 hc1 x0 x1 x2 x3 x4 x5 x6 x7 x8 = confPart x0 x1 x2 x3 x4 x5 x6 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 hc1 x0 x1 x2 x3 x4 x5 x6 x7 x8)]
  unfold kernelRun0_A
  dsimp only
  sl_unfold_words
  rw [View.canon_unit_zero zero2]
  simp only [View.readAt_eq_ld, harg2.read_unread, harg3.read_unread, harg4.read_unread, harg5.read_unread, harg6.read_unread,
    harg7.read_unread, harg8.read_unread, harg9.read_unread, harg10.read_unread, View.ld_unit_zero (S := S1x2000x81) zero3,
    View.ld_unit_zero (S := S2000x128) zero2]
  rfl

end CaseA

section CaseB
variable (c : Dev nD) (i : grid0.Coords) (arg2 : Memref sig .tc .vmem S1x2000x81 .f32) (harg2 : arg2.IsWhole) (arg3 : Memref sig .tc .vmem S1x2000x81 .f32) (harg3 : arg3.IsWhole) (arg4 : Memref sig .tc .vmem S1x2000x81 .f32) (harg4 : arg4.IsWhole) (arg5 : Memref sig .tc .vmem S1x2000x81 .f32) (harg5 : arg5.IsWhole) (arg6 : Memref sig .tc .vmem S1x2000x81 .f32) (harg6 : arg6.IsWhole) (arg7 : Memref sig .tc .vmem S1x2000x81 .f32) (harg7 : arg7.IsWhole) (arg8 : Memref sig .tc .vmem S1x2000x81 .f32) (harg8 : arg8.IsWhole) (arg9 : Memref sig .tc .vmem S1x2000x81 .f32) (harg9 : arg9.IsWhole) (arg10 : Memref sig .tc .vmem S2000x128 .i32) (harg10 : arg10.IsWhole) (arg11 : Memref sig .tc .vmem S1x1 .f32) (harg11 : arg11.IsWhole) (hc0 : ¬cond0_0 i) (hc1 : cond0_1 i)
    (x0 : Vec F S1x2000x81 .f32) (x1 : Vec F S1x2000x81 .f32) (x2 : Vec F S1x2000x81 .f32) (x3 : Vec F S1x2000x81 .f32) (x4 : Vec F S1x2000x81 .f32) (x5 : Vec F S1x2000x81 .f32) (x6 : Vec F S1x2000x81 .f32) (x7 : Vec F S1x2000x81 .f32) (x8 : Vec F S2000x128 .i32) (xo9 : Vec F S1x1 .f32)

/-- A later point leaves what was there plus its partial sum. -/
theorem out0_B_eq : out0_B_9 c i arg2 harg2 arg3 harg3 arg4 harg4 arg5 harg5 arg6 harg6 arg7 harg7 arg8 harg8 arg9 harg9 arg10 harg10 arg11 harg11 hc0 hc1 x0 x1 x2 x3 x4 x5 x6 x7 x8 xo9 = addf xo9 (confPart x0 x1 x2 x3 x4 x5 x6 x7 x8) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 hc1 x0 x1 x2 x3 x4 x5 x6 x7 x8 xo9)]
  unfold kernelRun0_B
  dsimp only
  sl_unfold_words
  rw [View.canon_unit_zero zero2]
  simp only [View.readAt_eq_ld, harg2.read_unread, harg3.read_unread, harg4.read_unread, harg5.read_unread, harg6.read_unread,
    harg7.read_unread, harg8.read_unread, harg9.read_unread, harg10.read_unread, harg11.read_unread, View.ld_unit_zero (S := S1x2000x81) zero3,
    View.ld_unit_zero (S := S2000x128) zero2, View.ld_unit_zero (S := S1x1) zero2]
  unfold k0_pay2
  simp only [shapeCast_self]
  rfl

end CaseB

end Cert.KernelIdeal.Own

end
-- ==== Proof.KernelIdeal.ConfSum.lean ====
module

public import proofs.«01_k».proof.Proof.KernelIdeal.ConfStep
public import proofs.«01_k».proof.Proof.Terms
public import Idealize.ShloMosaic.Lib.Pipeline.ValueKit

/-! The confidence call's partial sum as a sum of focal terms, plane by plane. -/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL.Sem Cert.Own

/-- The focal terms of the plane `x`, whose labels stand in lane `s`. -/
def slab (x8 : IVec S2000x128 32) (x : FVec Ideal S1x2000x81 .f32) (s : Fin 128) : EReal :=
  ∑ r : Fin 2000, ∑ k : Fin 81, kTerm (hot k.val (x8 (ix2 r s))) (x (ix3 0 r k))

/-- The partial sum is the eight planes' focal terms. -/
theorem confPart_apply (x0 x1 x2 x3 x4 x5 x6 x7 : FVec Ideal S1x2000x81 .f32) (x8 : IVec S2000x128 32) (j : S1x1.Idx) :
    confPart (F := Ideal) x0 x1 x2 x3 x4 x5 x6 x7 x8 j = (slab x8 x0 0 + slab x8 x1 1 + slab x8 x2 2 + slab x8 x3 3 + slab x8 x4 4 + slab x8 x5 5 + slab x8 x6 6 + slab x8 x7 7 : EReal) := by
  pointwise [confPart, lanes, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl
end Cert.KernelIdeal.Own

end
-- ==== Proof.KernelIdeal.LocStep.lean ====
/- What the location call's body leaves in its three results: the count and the location sum, stored at the first point
   and added to at every later one, and at the last point the three losses made from them. -/
module

public import proofs.«01_k».proof.Proof.KernelIdeal.Loc
public import proofs.«01_k».proof.Proof.KernelIdeal.ConfStep
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL.Sem

variable {F : FTy → Type} [FloatOps F] [Named F]

section CaseA
variable (c : Dev nD) (i : grid1.Coords) (arg2 : Memref sig .tc .vmem S1x10000x4 .f32) (harg2 : arg2.IsWhole) (arg3 : Memref sig .tc .vmem S1x10000x4 .f32) (harg3 : arg3.IsWhole) (arg4 : Memref sig .tc .vmem S10000x128 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : ¬cond1_1 i) (hc2 : ¬cond1_2 i)
    (x0 : Vec F S1x10000x4 .f32) (x1 : Vec F S1x10000x4 .f32) (x2 : Vec F S10000x128 .i32) (x3 : Vec F S1x1 .f32)

/-- The first point leaves its count. -/
theorem out1_A_4_eq : out1_A_4 c i arg2 harg2 arg3 harg3 arg4 harg4 arg5 harg5 arg6 harg6 arg7 harg7 arg8 harg8 hc0 hc1 hc2 x0 x1 x2 x3 = k1_pay1 (k1_pay12 i x2) := by
  unfold out1_A_4
  rw [View.read_writes_eq_canon _ _ _ (cover1_A_4 c i arg2 harg2 arg3 harg3 arg4 harg4 arg5 harg5 arg6 harg6 arg7 harg7 arg8 harg8 hc0 hc1 hc2 x0 x1 x2 x3)]
  unfold kernelRun1_A
  dsimp only
  sl_unfold_words
  rw [View.canon_unit_zero (S := S1x1) zero2]
  simp only [View.readAt_eq_ld, harg2.read_unread, harg3.read_unread, harg4.read_unread, harg5.read_unread, harg6.read_unread,
    harg7.read_unread, harg8.read_unread, View.ld_unit_zero (S := S1x10000x4) zero3,
    View.ld_unit_zero (S := S10000x128) zero2, View.ld_unit_zero (S := S1x1) zero2]

/-- The first point leaves its location sum. -/
theorem out1_A_6_eq : out1_A_6 c i arg2 harg2 arg3 harg3 arg4 harg4 arg5 harg5 arg6 harg6 arg7 harg7 arg8 harg8 hc0 hc1 hc2 x0 x1 x2 x3 = k1_pay11 i x2 x0 x1 := by
  unfold out1_A_6
  rw [View.read_writes_eq_canon _ _ _ (cover1_A_6 c i arg2 harg2 arg3 harg3 arg4 harg4 arg5 harg5 arg6 harg6 arg7 harg7 arg8 harg8 hc0 hc1 hc2 x0 x1 x2 x3)]
  unfold kernelRun1_A
  dsimp only
  sl_unfold_words
  rw [View.canon_unit_zero (S := S1x1) zero2]
  simp only [View.readAt_eq_ld, harg2.read_unread, harg3.read_unread, harg4.read_unread, harg5.read_unread, harg6.read_unread,
    harg7.read_unread, harg8.read_unread, View.ld_unit_zero (S := S1x10000x4) zero3,
    View.ld_unit_zero (S := S10000x128) zero2, View.ld_unit_zero (S := S1x1) zero2]

end CaseA

section CaseB
variable (c : Dev nD) (i : grid1.Coords) (arg2 : Memref sig .tc .vmem S1x10000x4 .f32) (harg2 : arg2.IsWhole) (arg3 : Memref sig .tc .vmem S1x10000x4 .f32) (harg3 : arg3.IsWhole) (arg4 : Memref sig .tc .vmem S10000x128 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i) (hc2 : ¬cond1_2 i)
    (x0 : Vec F S1x10000x4 .f32) (x1 : Vec F S1x10000x4 .f32) (x2 : Vec F S10000x128 .i32) (x3 : Vec F S1x1 .f32) (xo4 : Vec F S1x1 .f32) (xo6 : Vec F S1x1 .f32)

/-- A point in between adds its count. -/
theorem out1_B_4_eq : out1_B_4 c i arg2 harg2 arg3 harg3 arg4 harg4 arg5 harg5 arg6 harg6 arg7 harg7 arg8 harg8 hc0 hc1 hc2 x0 x1 x2 x3 xo4 xo6 = k1_pay3 (k1_pay12 i x2) xo4 := by
  unfold out1_B_4
  rw [View.read_writes_eq_canon _ _ _ (cover1_B_4 c i arg2 harg2 arg3 harg3 arg4 harg4 arg5 harg5 arg6 harg6 arg7 harg7 arg8 harg8 hc0 hc1 hc2 x0 x1 x2 x3 xo4 xo6)]
  unfold kernelRun1_B
  dsimp only
  sl_unfold_words
  rw [View.canon_unit_zero (S := S1x1) zero2]
  simp only [View.readAt_eq_ld, harg2.read_unread, harg3.read_unread, harg4.read_unread, harg5.read_unread, harg6.read_unread,
    harg7.read_unread, harg8.read_unread, View.ld_unit_zero (S := S1x10000x4) zero3,
    View.ld_unit_zero (S := S10000x128) zero2, View.ld_unit_zero (S := S1x1) zero2]

/-- A point in between adds its location sum. -/
theorem out1_B_6_eq : out1_B_6 c i arg2 harg2 arg3 harg3 arg4 harg4 arg5 harg5 arg6 harg6 arg7 harg7 arg8 harg8 hc0 hc1 hc2 x0 x1 x2 x3 xo4 xo6 = k1_pay2 (k1_pay11 i x2 x0 x1) xo6 := by
  unfold out1_B_6
  rw [View.read_writes_eq_canon _ _ _ (cover1_B_6 c i arg2 harg2 arg3 harg3 arg4 harg4 arg5 harg5 arg6 harg6 arg7 harg7 arg8 harg8 hc0 hc1 hc2 x0 x1 x2 x3 xo4 xo6)]
  unfold kernelRun1_B
  dsimp only
  sl_unfold_words
  rw [View.canon_unit_zero (S := S1x1) zero2]
  simp only [View.readAt_eq_ld, harg2.read_unread, harg3.read_unread, harg4.read_unread, harg5.read_unread, harg6.read_unread,
    harg7.read_unread, harg8.read_unread, View.ld_unit_zero (S := S1x10000x4) zero3,
    View.ld_unit_zero (S := S10000x128) zero2, View.ld_unit_zero (S := S1x1) zero2]

end CaseB

section CaseC
variable (c : Dev nD) (i : grid1.Coords) (arg2 : Memref sig .tc .vmem S1x10000x4 .f32) (harg2 : arg2.IsWhole) (arg3 : Memref sig .tc .vmem S1x10000x4 .f32) (harg3 : arg3.IsWhole) (arg4 : Memref sig .tc .vmem S10000x128 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i) (hc2 : cond1_2 i)
    (x0 : Vec F S1x10000x4 .f32) (x1 : Vec F S1x10000x4 .f32) (x2 : Vec F S10000x128 .i32) (x3 : Vec F S1x1 .f32) (xo4 : Vec F S1x1 .f32) (xo6 : Vec F S1x1 .f32)

/-- The last point leaves the total loss of the completed sums. -/
theorem out1_C_4_eq : out1_C_4 c i arg2 harg2 arg3 harg3 arg4 harg4 arg5 harg5 arg6 harg6 arg7 harg7 arg8 harg8 hc0 hc1 hc2 x0 x1 x2 x3 xo4 xo6 = k1_pay9 (k1_pay3 (k1_pay12 i x2) xo4) x3 (k1_pay2 (k1_pay11 i x2 x0 x1) xo6) := by
  unfold out1_C_4
  rw [View.read_writes_eq_canon _ _ _ (cover1_C_4 c i arg2 harg2 arg3 harg3 arg4 harg4 arg5 harg5 arg6 harg6 arg7 harg7 arg8 harg8 hc0 hc1 hc2 x0 x1 x2 x3 xo4 xo6)]
  unfold kernelRun1_C
  dsimp only
  sl_unfold_words
  rw [View.canon_cons_unit_zero (S := S1x1) zero2]
  simp only [View.readCov_unit_zero (S := S1x1) _ zero2]
  simp only [View.readAt_eq_ld, harg2.read_unread, harg3.read_unread, harg4.read_unread, harg5.read_unread, harg6.read_unread,
    harg7.read_unread, harg8.read_unread, View.ld_unit_zero (S := S1x10000x4) zero3,
    View.ld_unit_zero (S := S10000x128) zero2, View.ld_unit_zero (S := S1x1) zero2]

/-- The last point leaves the confidence loss. -/
theorem out1_C_5_eq : out1_C_5 c i arg2 harg2 arg3 harg3 arg4 harg4 arg5 harg5 arg6 harg6 arg7 harg7 arg8 harg8 hc0 hc1 hc2 x0 x1 x2 x3 xo4 xo6 = k1_pay7 (k1_pay3 (k1_pay12 i x2) xo4) x3 := by
  unfold out1_C_5
  rw [View.read_writes_eq_canon _ _ _ (cover1_C_5 c i arg2 harg2 arg3 harg3 arg4 harg4 arg5 harg5 arg6 harg6 arg7 harg7 arg8 harg8 hc0 hc1 hc2 x0 x1 x2 x3 xo4 xo6)]
  unfold kernelRun1_C
  dsimp only
  sl_unfold_words
  rw [View.canon_unit_zero (S := S1x1) zero2]
  simp only [View.readCov_unit_zero (S := S1x1) _ zero2]
  simp only [View.readAt_eq_ld, harg2.read_unread, harg3.read_unread, harg4.read_unread, harg5.read_unread, harg6.read_unread,
    harg7.read_unread, harg8.read_unread, View.ld_unit_zero (S := S1x10000x4) zero3,
    View.ld_unit_zero (S := S10000x128) zero2, View.ld_unit_zero (S := S1x1) zero2]

/-- The last point leaves the location loss. -/
theorem out1_C_6_eq : out1_C_6 c i arg2 harg2 arg3 harg3 arg4 harg4 arg5 harg5 arg6 harg6 arg7 harg7 arg8 harg8 hc0 hc1 hc2 x0 x1 x2 x3 xo4 xo6 = k1_pay8 (k1_pay3 (k1_pay12 i x2) xo4) (k1_pay2 (k1_pay11 i x2 x0 x1) xo6) := by
  unfold out1_C_6
  rw [View.read_writes_eq_canon _ _ _ (cover1_C_6 c i arg2 harg2 arg3 harg3 arg4 harg4 arg5 harg5 arg6 harg6 arg7 harg7 arg8 harg8 hc0 hc1 hc2 x0 x1 x2 x3 xo4 xo6)]
  unfold kernelRun1_C
  dsimp only
  sl_unfold_words
  rw [View.canon_cons_unit_zero (S := S1x1) zero2]
  simp only [View.readCov_unit_zero (S := S1x1) _ zero2]
  simp only [View.readAt_eq_ld, harg2.read_unread, harg3.read_unread, harg4.read_unread, harg5.read_unread, harg6.read_unread,
    harg7.read_unread, harg8.read_unread, View.ld_unit_zero (S := S1x10000x4) zero3,
    View.ld_unit_zero (S := S10000x128) zero2, View.ld_unit_zero (S := S1x1) zero2]

end CaseC

end Cert.KernelIdeal.Own

end
-- ==== Proof.KernelIdeal.LocSum.lean ====
module

public import proofs.«01_k».proof.Proof.KernelIdeal.LocStep
public import proofs.«01_k».proof.Proof.Terms
public import Idealize.ShloMosaic.Lib.Pipeline.ValueKit

/-! The location call's payloads as sums: the lane of the image picked out, the smooth-L1 terms, the count, and the
three losses of the last point. -/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL.Sem Cert.Own

/-- The lane an image's labels stand in, as the body computes it. -/
theorem lane_eq (a : ℕ) (ha : a < 16) : Scalar.remsi (BitVec.ofNat 32 a) 8#32 = BitVec.ofNat 32 (a % 8) :=
  (by decide : ∀ a : Fin 16, Scalar.remsi (BitVec.ofNat 32 a.val) 8#32 = BitVec.ofNat 32 (a.val % 8)) ⟨a, ha⟩

/-- The masked sum over the lanes is the indicator at the image's lane. -/
theorem lane_sum (a : ℕ) (ha : a < 16) (h8 : a % 8 < 128) (f : Fin 128 → BitVec 32) :
    ∑ l : Fin 128, Scalar.select (IntOp.andi (IntOp.cmpi .eq (BitVec.ofNat 32 l.val) (Scalar.remsi (BitVec.ofNat 32 a) 8#32)) (IntOp.cmpi .sgt (f l) 0#32)) (1 : EReal) 0
      = posE (f ⟨a % 8, h8⟩) := by
  rw [lane_eq a ha, Finset.sum_eq_single ⟨a % 8, h8⟩]
  · unfold posE
    rw [uitofp_bit]
    rcases bit_cases (IntOp.cmpi .sgt (f ⟨a % 8, h8⟩) 0#32) with h | h <;> rw [h] <;> simp [IntOp.cmpi, IntOp.andi, Scalar.select]
  · intro l _ hl
    have hne : ¬ BitVec.ofNat 32 l.val = BitVec.ofNat 32 (a % 8) := by
      intro e
      have := congrArg BitVec.toNat e
      simp only [BitVec.toNat_ofNat] at this
      have h1 := l.isLt
      apply hl
      apply Fin.ext
      show l.val = a % 8
      omega
    have h0 : IntOp.cmpi .eq (BitVec.ofNat 32 l.val) (BitVec.ofNat 32 (a % 8)) = 0#1 := by simp only [IntOp.cmpi, beq_eq_false_iff_ne.mpr hne]; rfl
    rw [h0]
    simp [IntOp.andi, Scalar.select]
  · intro h
    exact absurd (Finset.mem_univ _) h

/-- The smooth-L1 terms of one point, summed where an object is. -/
theorem locPart_apply (i : grid1.Coords) (x2 : IVec S10000x128 32) (x0 x1 : FVec Ideal S1x10000x4 .f32) (h8 : (i 0).val % 8 < 128) (j : S1x1.Idx) :
    k1_pay11 (F := Ideal) i x2 x0 x1 j = (∑ x : Fin 10000, (∑ k : Fin 4, sl1 (x0 (ix3 0 x k) - x1 (ix3 0 x k))) * posE (x2 (ix2 x ⟨(i 0).val % 8, h8⟩)) : EReal) := by
  unfold sl1
  pointwise [k1_pay11, k1_pay10]
  refine Finset.sum_congr rfl fun x _ => (Fin.sum_univ_one _).trans ?_
  exact congrArg _ (lane_sum _ (i 0).isLt h8 fun l => x2 (ix2 x l))

/-- The objects of one point. -/
theorem cntPart_apply (i : grid1.Coords) (x2 : IVec S10000x128 32) (h8 : (i 0).val % 8 < 128) (j : S1x1.Idx) :
    k1_pay1 (F := Ideal) (k1_pay12 i x2) j = (∑ x : Fin 10000, posE (x2 (ix2 x ⟨(i 0).val % 8, h8⟩)) : EReal) := by
  pointwise [k1_pay1, k1_pay12, k1_pay10]
  refine Finset.sum_congr rfl fun x _ => (Fin.sum_univ_one _).trans ?_
  exact lane_sum _ (i 0).isLt h8 fun l => x2 (ix2 x l)

/-- The last point's total loss. -/
theorem finTot_apply (tot x3 loc : FVec Ideal S1x1 .f32) (j : S1x1.Idx) :
    k1_pay9 (F := Ideal) tot x3 loc j = (Ideal.ofBits .f32 1056964608#32 * Ideal.div (factor * x3 (ix2 0 0)) (tot (ix2 0 0))
      + Ideal.ofBits .f32 1056964608#32 * Ideal.div (loc (ix2 0 0)) (tot (ix2 0 0)) : EReal) := by
  pointwise [k1_pay9, k1_pay8, k1_pay7, k1_pay5, k1_pay6, k1_pay4]
  rfl

/-- The last point's confidence loss. -/
theorem finConf_apply (tot x3 : FVec Ideal S1x1 .f32) (j : S1x1.Idx) :
    k1_pay7 (F := Ideal) tot x3 j = (Ideal.div (factor * x3 (ix2 0 0)) (tot (ix2 0 0)) : EReal) := by
  pointwise [k1_pay7, k1_pay5, k1_pay4]
  rfl

/-- The last point's location loss. -/
theorem finLoc_apply (tot loc : FVec Ideal S1x1 .f32) (j : S1x1.Idx) :
    k1_pay8 (F := Ideal) tot loc j = (Ideal.div (loc (ix2 0 0)) (tot (ix2 0 0)) : EReal) := by
  pointwise [k1_pay8, k1_pay6, k1_pay4]

/-- A later point adds its smooth-L1 terms to what was there. -/
theorem pay2_apply (p a : FVec Ideal S1x1 .f32) (j : S1x1.Idx) :
    k1_pay2 (F := Ideal) p a j = (a j + p j : EReal) := by
  pointwise [k1_pay2]
/-- A later point adds its count to what was there. -/
theorem pay3_apply (p : FVec Ideal S1x1x1 .f32) (a : FVec Ideal S1x1 .f32) (j : S1x1.Idx) :
    k1_pay3 (F := Ideal) p a j = (a j + k1_pay1 (F := Ideal) p j : EReal) := by
  pointwise [k1_pay3]

end Cert.KernelIdeal.Own

end
-- ==== Proof.KernelIdeal.Acc.lean ====
module

public import proofs.«01_k».proof.Proof.KernelIdeal.ConfSum
public import proofs.«01_k».proof.Proof.KernelIdeal.LocSum

/-! The running sums of the two calls: after its last point the confidence call holds the sum of its points' partial
sums; before its last point the location call holds the sums of the counts and of the smooth-L1 terms so far, and
its last point makes the losses of the completed sums. -/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL.Sem Cert.Own

/-- A running sum: what starts at the first term and adds a term at every step below `B` is, there, the sum so far. -/
theorem run_sum {N : ℕ} (f : (n : ℕ) → n < N → EReal) (g : Fin N → EReal) (B : ℕ)
    (h0 : ∀ t : Fin N, t.val = 0 → f t.val t.isLt = g t)
    (hs : ∀ t : Fin N, ¬ t.val = 0 → t.val < B → f t.val t.isLt = f (t.val - 1) (Nat.lt_of_le_of_lt (Nat.sub_le _ _) t.isLt) + g t) :
    ∀ (n : ℕ) (hn : n < N), n < B → f n hn = ∑ p : Fin (n + 1), g ⟨p.val, lt_of_lt_of_le p.isLt hn⟩
  | 0, hn, _ => by
    rw [Fin.sum_univ_one]
    exact h0 ⟨0, hn⟩ rfl
  | n + 1, hn, h => by
    rw [Fin.sum_univ_castSucc]
    exact (hs ⟨n + 1, hn⟩ (Nat.succ_ne_zero n) h).trans (congrArg (· + g ⟨n + 1, hn⟩) (run_sum f g B h0 hs n _ (Nat.lt_of_succ_lt h)))

/-- The sum so far with the last term is the whole sum. -/
theorem run_sum_last {N : ℕ} (f : (n : ℕ) → n < N → EReal) (g : Fin N → EReal) (B : ℕ)
    (h0 : ∀ t : Fin N, t.val = 0 → f t.val t.isLt = g t)
    (hs : ∀ t : Fin N, ¬ t.val = 0 → t.val < B → f t.val t.isLt = f (t.val - 1) (Nat.lt_of_le_of_lt (Nat.sub_le _ _) t.isLt) + g t)
    (t : Fin N) (ht : t.val + 1 = N) (hz : ¬ t.val = 0) (hB : t.val ≤ B) :
    f (t.val - 1) (Nat.lt_of_le_of_lt (Nat.sub_le _ _) t.isLt) + g t = ∑ p : Fin N, g p := by
  obtain ⟨n, hn⟩ := t
  cases n with
  | zero => exact absurd rfl hz
  | succ n =>
    obtain rfl : n + 1 + 1 = N := ht
    rw [Fin.sum_univ_castSucc]
    exact congrArg (· + g ⟨n + 1, hn⟩) (run_sum f g B h0 hs n (Nat.lt_of_succ_lt hn) hB)

variable (V : (c : Dev nD) → (b : Ref sig .tc) → Buf (Elt Ideal) ((c : Thread nD τ).loc b))

/-- A point's partial sum of focal terms. -/
def confAt (c : Dev nD) (t : Fin cfg0.N) : EReal :=
  confPart (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 0 0)

theorem outs0_first (c : Dev nD) (t : Fin cfg0.N) (h : t.val = 0) :
    (show FVec Ideal S1x1 .f32 from outsAt0 V c t.val t.isLt) (ix2 0 0) = confAt V c t := by
  rw [outsAt0_A V c t (by omega) (by omega), out0_A_eq]
  rfl

theorem outs0_next (c : Dev nD) (t : Fin cfg0.N) (h : ¬ t.val = 0) :
    (show FVec Ideal S1x1 .f32 from outsAt0 V c t.val t.isLt) (ix2 0 0)
      = ((show FVec Ideal S1x1 .f32 from outsAt0 V c (t.val - 1) (Nat.lt_of_le_of_lt (Nat.sub_le _ _) t.isLt)) (ix2 0 0) + confAt V c t : EReal) := by
  have ht : t.val < 20 := lt_of_lt_of_eq t.isLt N_0
  rw [outsAt0_B V c t (by omega) (by omega), out0_B_eq]
  rfl

/-- The focal terms of all points. -/
def confAll (c : Dev nD) : EReal := ∑ p : Fin cfg0.N, confAt V c p

/-- After the confidence call's last point. -/
theorem outs0_last (c : Dev nD) (t : Fin cfg0.N) (ht : t.val = 19) :
    (show FVec Ideal S1x1 .f32 from outsAt0 V c t.val t.isLt) (ix2 0 0) = confAll V c :=
  (outs0_next V c t (by omega)).trans (run_sum_last (fun n hn => (show FVec Ideal S1x1 .f32 from outsAt0 V c n hn) (ix2 0 0)) (confAt V c) 20
    (outs0_first V c) (fun t h _ => outs0_next V c t h) t (by rw [ht]; exact N_0.symm) (by omega) (by omega))

/-- A point's count. -/
def cntAt (c : Dev nD) (t : Fin cfg1.N) : EReal :=
  k1_pay1 (F := Ideal) (k1_pay12 (grid1.coords t) (iblk1 V c 2 t)) (ix2 0 0)

/-- A point's sum of smooth-L1 terms. -/
def locAt (c : Dev nD) (t : Fin cfg1.N) : EReal :=
  k1_pay11 (F := Ideal) (grid1.coords t) (iblk1 V c 2 t) (iblk1 V c 0 t) (iblk1 V c 1 t) (ix2 0 0)

theorem outs1_first (c : Dev nD) (t : Fin cfg1.N) (h : t.val = 0) :
    (show FVec Ideal S1x1 .f32 from (outsAt1 V c t.val t.isLt).1) (ix2 0 0) = cntAt V c t
    ∧ (show FVec Ideal S1x1 .f32 from (outsAt1 V c t.val t.isLt).2.2) (ix2 0 0) = locAt V c t := by
  rw [outsAt1_A V c t (by omega) (by omega) (by omega)]
  dsimp only
  rw [out1_A_4_eq, out1_A_6_eq]
  exact ⟨rfl, rfl⟩

theorem outs1_next (c : Dev nD) (t : Fin cfg1.N) (h : ¬ t.val = 0) (h31 : t.val < 31) :
    (show FVec Ideal S1x1 .f32 from (outsAt1 V c t.val t.isLt).1) (ix2 0 0)
      = ((show FVec Ideal S1x1 .f32 from (outsAt1 V c (t.val - 1) (Nat.lt_of_le_of_lt (Nat.sub_le _ _) t.isLt)).1) (ix2 0 0) + cntAt V c t : EReal)
    ∧ (show FVec Ideal S1x1 .f32 from (outsAt1 V c t.val t.isLt).2.2) (ix2 0 0)
      = ((show FVec Ideal S1x1 .f32 from (outsAt1 V c (t.val - 1) (Nat.lt_of_le_of_lt (Nat.sub_le _ _) t.isLt)).2.2) (ix2 0 0) + locAt V c t : EReal) := by
  rw [outsAt1_B V c t (by omega) (by omega) (by omega)]
  dsimp only
  rw [out1_B_4_eq, out1_B_6_eq]
  exact ⟨pay3_apply _ _ _, pay2_apply _ _ _⟩

/-- The count of all points. -/
def cntAll (c : Dev nD) : EReal := ∑ p : Fin cfg1.N, cntAt V c p
/-- The smooth-L1 terms of all points. -/
def locAll (c : Dev nD) : EReal := ∑ p : Fin cfg1.N, locAt V c p

/-- The completed count, as the last point of the location call makes it. -/
theorem cnt_last (c : Dev nD) (t : Fin cfg1.N) (ht : t.val = 31) :
    k1_pay3 (F := Ideal) (k1_pay12 (grid1.coords t) (iblk1 V c 2 t)) (outsAt1 V c (t.val - 1) (Nat.lt_of_le_of_lt (Nat.sub_le _ _) t.isLt)).1 (ix2 0 0) = cntAll V c :=
  (pay3_apply _ _ _).trans (run_sum_last (fun n hn => (show FVec Ideal S1x1 .f32 from (outsAt1 V c n hn).1) (ix2 0 0)) (cntAt V c) 31
    (fun t h => (outs1_first V c t h).1) (fun t h h' => (outs1_next V c t h h').1) t (by rw [ht]; exact N_1.symm) (by omega) (by omega))

/-- The completed sum of smooth-L1 terms. -/
theorem loc_last (c : Dev nD) (t : Fin cfg1.N) (ht : t.val = 31) :
    k1_pay2 (F := Ideal) (k1_pay11 (grid1.coords t) (iblk1 V c 2 t) (iblk1 V c 0 t) (iblk1 V c 1 t)) (outsAt1 V c (t.val - 1) (Nat.lt_of_le_of_lt (Nat.sub_le _ _) t.isLt)).2.2 (ix2 0 0) = locAll V c :=
  (pay2_apply _ _ _).trans (run_sum_last (fun n hn => (show FVec Ideal S1x1 .f32 from (outsAt1 V c n hn).2.2) (ix2 0 0)) (locAt V c) 31
    (fun t h => (outs1_first V c t h).2) (fun t h h' => (outs1_next V c t h h').2) t (by rw [ht]; exact N_1.symm) (by omega) (by omega))

/-- After the location call's last point: the three losses. -/
theorem outs1_last (c : Dev nD) (t : Fin cfg1.N) (ht : t.val = 31) :
    (show FVec Ideal S1x1 .f32 from (outsAt1 V c t.val t.isLt).1) (ix2 0 0)
      = (Ideal.ofBits .f32 1056964608#32 * Ideal.div (factor * (show FVec Ideal S1x1 .f32 from iblk1 V c 3 t) (ix2 0 0)) (cntAll V c)
        + Ideal.ofBits .f32 1056964608#32 * Ideal.div (locAll V c) (cntAll V c) : EReal)
    ∧ (show FVec Ideal S1x1 .f32 from (outsAt1 V c t.val t.isLt).2.1) (ix2 0 0)
      = Ideal.div (factor * (show FVec Ideal S1x1 .f32 from iblk1 V c 3 t) (ix2 0 0)) (cntAll V c)
    ∧ (show FVec Ideal S1x1 .f32 from (outsAt1 V c t.val t.isLt).2.2) (ix2 0 0)
      = Ideal.div (locAll V c) (cntAll V c) := by
  rw [outsAt1_C V c t (by omega) (by omega) (by omega)]
  dsimp only
  rw [out1_C_4_eq, out1_C_5_eq, out1_C_6_eq, ← cnt_last V c t ht, ← loc_last V c t ht]
  exact ⟨finTot_apply _ _ _ _, finConf_apply _ _ _, finLoc_apply _ _ _⟩

end Cert.KernelIdeal.Own

end
-- ==== Proof.KernelIdeal.Blocks.lean ====
module

public import proofs.«01_k».proof.Proof.KernelIdeal.Run
public import Idealize.ShloMosaic.Lib.Pipeline.ValueKit

/-! What the two calls read: every block in terms of the arrays of @main. A block of scores, boxes or labels
is the array read at the block's place, and the label table holds label `(r / 20000 * 8 + s, r % 20000)` in
row `r`, lane `s < 8`. -/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL.Sem

section Reads
variable (V : (c : Dev nD) → (b : Ref sig .tc) → Buf (Elt Ideal) ((c : Thread nD τ).loc b))

/-- The eight score blocks of point `t` of the first call. -/
def scores (c : Dev nD) (t : Fin cfg0.N) : Fin 8 → FVec Ideal S1x2000x81 .f32 :=
  ![iblk0 V c 0 t, iblk0 V c 1 t, iblk0 V c 2 t, iblk0 V c 3 t, iblk0 V c 4 t, iblk0 V c 5 t, iblk0 V c 6 t, iblk0 V c 7 t]

/-- Score window `s` stands at score row `t / 10 * 8 + s`. -/
theorem idx0_scores : ∀ (s : Fin 8) (t : Fin cfg0.N), (![win0_0.index t, win0_1.index t, win0_2.index t, win0_3.index t, win0_4.index t,
      win0_5.index t, win0_6.index t, win0_7.index t] : Fin 8 → Fin 3 → ℕ) s = ![t.val / 10 * 8 + s.val, t.val % 10, 0] :=
  (by decide +kernel : ∀ (s : Fin 8) (t : Fin grid0.N), _)

/-- Score block `s` by entries. -/
theorem scores_apply (c : Dev nD) (t : Fin cfg0.N) (s : Fin 8) (x : Fin 2000) (k : Fin 81) (h1 : t.val / 10 * 8 + s.val < 16) (h2 : t.val % 10 * 2000 + x.val < 20000) :
    scores V c t s (ix3 0 x k)
      = (show FVec Ideal S16x20000x81 .f32 from V c main_arg2) (ix3 ⟨t.val / 10 * 8 + s.val, h1⟩ ⟨t.val % 10 * 2000 + x.val, h2⟩ k) := by
  have e0 : win0_0.index t = _ := idx0_scores 0 t
  have e1 : win0_1.index t = _ := idx0_scores 1 t
  have e2 : win0_2.index t = _ := idx0_scores 2 t
  have e3 : win0_3.index t = _ := idx0_scores 3 t
  have e4 : win0_4.index t = _ := idx0_scores 4 t
  have e5 : win0_5.index t = _ := idx0_scores 5 t
  have e6 : win0_6.index t = _ := idx0_scores 6 t
  have e7 : win0_7.index t = _ := idx0_scores 7 t
  fin_cases s <;> dsimp [scores] <;> blk_point [iblk0, e0, e1, e2, e3, e4, e5, e6, e7]

/-- Window 8 of the first call stands at slab `t` of the label table. -/
theorem idx0_8 : ∀ t : Fin cfg0.N, win0_8.index t = ![t.val, 0] :=
  (by decide +kernel : ∀ t : Fin grid0.N, _)

/-- The label block of the first call. -/
theorem blk0_8 (c : Dev nD) (t : Fin cfg0.N) (x : Fin 2000) (s : Fin 128) (h2 : t.val * 2000 + x.val < 40000) :
    (show IVec S2000x128 32 from iblk0 V c 8 t) (ix2 x s) = (show IVec S40000x128 32 from V c main_call0_v3) (ix2 ⟨t.val * 2000 + x.val, h2⟩ s) := by
  blk_point [iblk0, idx0_8 t]

/-- Window 0 of the second call stands at image `t / 2`, half `t % 2`. -/
theorem idx1_0 : ∀ t : Fin cfg1.N, win1_0.index t = ![t.val / 2, t.val % 2, 0] :=
  (by decide +kernel : ∀ t : Fin grid1.N, _)

/-- The block of predicted boxes. -/
theorem blk1_0 (c : Dev nD) (t : Fin cfg1.N) (x : Fin 10000) (k : Fin 4) (h1 : t.val / 2 < 16) (h2 : t.val % 2 * 10000 + x.val < 20000) :
    (show FVec Ideal S1x10000x4 .f32 from iblk1 V c 0 t) (ix3 0 x k)
      = (show FVec Ideal S16x20000x4 .f32 from V c main_arg0) (ix3 ⟨t.val / 2, h1⟩ ⟨t.val % 2 * 10000 + x.val, h2⟩ k) := by
  blk_point [iblk1, idx1_0 t]

/-- Window 1 of the second call stands at image `t / 2`, half `t % 2`. -/
theorem idx1_1 : ∀ t : Fin cfg1.N, win1_1.index t = ![t.val / 2, t.val % 2, 0] :=
  (by decide +kernel : ∀ t : Fin grid1.N, _)

/-- The block of target boxes. -/
theorem blk1_1 (c : Dev nD) (t : Fin cfg1.N) (x : Fin 10000) (k : Fin 4) (h1 : t.val / 2 < 16) (h2 : t.val % 2 * 10000 + x.val < 20000) :
    (show FVec Ideal S1x10000x4 .f32 from iblk1 V c 1 t) (ix3 0 x k)
      = (show FVec Ideal S16x20000x4 .f32 from V c main_arg1) (ix3 ⟨t.val / 2, h1⟩ ⟨t.val % 2 * 10000 + x.val, h2⟩ k) := by
  blk_point [iblk1, idx1_1 t]

/-- Window 2 of the second call stands at the slab of the label table which holds image `t / 2`. -/
theorem idx1_2 : ∀ t : Fin cfg1.N, win1_2.index t = ![t.val / 16 * 2 + t.val % 2, 0] :=
  (by decide +kernel : ∀ t : Fin grid1.N, _)

/-- The label block of the second call. -/
theorem blk1_2 (c : Dev nD) (t : Fin cfg1.N) (x : Fin 10000) (s : Fin 128) (h2 : (t.val / 16 * 2 + t.val % 2) * 10000 + x.val < 40000) :
    (show IVec S10000x128 32 from iblk1 V c 2 t) (ix2 x s)
      = (show IVec S40000x128 32 from V c main_call0_v3) (ix2 ⟨(t.val / 16 * 2 + t.val % 2) * 10000 + x.val, h2⟩ s) := by
  blk_point [iblk1, idx1_2 t]

/-- Window 3 of the second call is the result of the first, one number. -/
theorem idx1_3 : ∀ t : Fin cfg1.N, win1_3.index t = ![0, 0] :=
  (by decide +kernel : ∀ t : Fin grid1.N, _)

/-- The block of window 3. -/
theorem blk1_3 (c : Dev nD) (t : Fin cfg1.N) :
    (show FVec Ideal S1x1 .f32 from iblk1 V c 3 t) (ix2 0 0) = (show FVec Ideal S1x1 .f32 from V c main_call0_v4) (ix2 0 0) := by
  blk_point [iblk1, idx1_3 t]

end Reads

/-- The class labels as the calls read them: split in two halves of eight rows, rows turned into columns, padded with zeros to 128 lanes. -/
def padTab (ct : IVec S16x20000 32) : IVec S40000x128 32 :=
  pad S40000x128 ![0, 0] ![0, 120] ![0, 0]
    (shapeCast S40000x8 (transpose S2x20000x8 [0, 2, 1] (shapeCast S2x8x20000 ct shapeCasts_S16x20000_S2x8x20000) transposes_S2x8x20000_S2x20000x8_0_2_1) shapeCasts_S2x20000x8_S40000x8)
    (constantI S_ 32 0#32) pads_S40000x8_S40000x128_000_01200 h_S_

/-- Row `r`, lane `s < 8` of the table. -/
theorem padTab_apply (ct : IVec S16x20000 32) (r : Fin 40000) (s : Fin 8) (h : s.val < 128) (h1 : r.val / 20000 * 8 + s.val < 16) (h2 : r.val % 20000 < 20000) :
    padTab ct (ix2 r ⟨s.val, h⟩) = ct (ix2 ⟨r.val / 20000 * 8 + s.val, h1⟩ ⟨r.val % 20000, h2⟩) := by
  pointwise [padTab]

variable (m : (ℓ : Loc nD τ sig) → Buf (Elt Ideal) ℓ) (ρ : Dev nD → PrngReg)

/-- The first call starts with the table of the labels in its buffer. -/
theorem V1_tab (c : Dev nD) :
    V1 m ρ c main_call0_v3 = (show IVec S40000x128 32 from padTab (show IVec S16x20000 32 from m ((c : Thread nD τ).loc main_arg3))) := by
  simp only [V1, W1]
  after_results_simp
  rfl

/-- … and so does the second. -/
theorem V2_tab (c : Dev nD) :
    V2 m ρ c main_call0_v3 = (show IVec S40000x128 32 from padTab (show IVec S16x20000 32 from m ((c : Thread nD τ).loc main_arg3))) :=
  (W2_of m ρ c main_call0_v3 (by decide +kernel)).trans (V1_tab m ρ c)

/-- The scores at the first call, and the boxes at the second, are the program's arguments. -/
theorem V1_arg2 (c : Dev nD) : V1 m ρ c main_arg2 = m ((c : Thread nD τ).loc main_arg2) := W1_args m ρ c main_arg2 (by decide)
theorem V2_arg0 (c : Dev nD) : V2 m ρ c main_arg0 = m ((c : Thread nD τ).loc main_arg0) := W2_args m ρ c main_arg0 (by decide)
theorem V2_arg1 (c : Dev nD) : V2 m ρ c main_arg1 = m ((c : Thread nD τ).loc main_arg1) := W2_args m ρ c main_arg1 (by decide)

end Cert.KernelIdeal.Own

end
-- ==== Proof.KernelIdeal.Sums.lean ====
module

public import proofs.«01_k».proof.Proof.KernelIdeal.Acc
public import proofs.«01_k».proof.Proof.KernelIdeal.Blocks

/-! The calls' sums over all points, as sums over images and anchors. -/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL.Sem Cert.Own

/-- The focal terms of one anchor. -/
def anchorConf (cp : FVec Ideal S16x20000x81 .f32) (ct : IVec S16x20000 32) (b : Fin 16) (r : Fin 20000) : EReal :=
  ∑ k : Fin 81, kTerm (hot k.val (ct (ix2 b r))) (cp (ix3 b r k))

/-- The smooth-L1 terms of one anchor, kept where an object is. -/
def anchorLoc (lp lt : FVec Ideal S16x20000x4 .f32) (ct : IVec S16x20000 32) (b : Fin 16) (r : Fin 20000) : EReal :=
  (∑ k : Fin 4, sl1 (lp (ix3 b r k) - lt (ix3 b r k))) * posE (ct (ix2 b r))

/-- One plane of one point: the focal terms of 2000 anchors of an image. -/
theorem slab_eq (cp : FVec Ideal S16x20000x81 .f32) (ct : IVec S16x20000 32) (t : ℕ) (s : Fin 8) (x8 : IVec S2000x128 32) (xs : FVec Ideal S1x2000x81 .f32)
    (hs : s.val < 128) (hb : t / 10 * 8 + s.val < 16) (hr : ∀ x : Fin 2000, t % 10 * 2000 + x.val < 20000) (hw : ∀ x : Fin 2000, t * 2000 + x.val < 40000)
    (h8 : ∀ (x : Fin 2000) (l : Fin 128), x8 (ix2 x l) = padTab ct (ix2 ⟨t * 2000 + x.val, hw x⟩ l))
    (hx : ∀ (x : Fin 2000) (k : Fin 81), xs (ix3 0 x k) = cp (ix3 ⟨t / 10 * 8 + s.val, hb⟩ ⟨t % 10 * 2000 + x.val, hr x⟩ k)) :
    slab x8 xs ⟨s.val, hs⟩ = ∑ x : Fin 2000, anchorConf cp ct ⟨t / 10 * 8 + s.val, hb⟩ ⟨t % 10 * 2000 + x.val, hr x⟩ := by
  unfold slab anchorConf
  refine Finset.sum_congr rfl fun x _ => Finset.sum_congr rfl fun k _ => ?_
  have hx' := x.isLt
  have h1 : (t * 2000 + x.val) / 20000 * 8 + s.val = t / 10 * 8 + s.val := by omega
  have h2 : (t * 2000 + x.val) % 20000 = t % 10 * 2000 + x.val := by omega
  rw [hx, h8, padTab_apply ct ⟨t * 2000 + x.val, hw x⟩ s hs (by dsimp only; omega) (by dsimp only; omega)]
  simp only [h1, h2]

/-- Twenty points of eight planes of 2000 anchors are all anchors of all images. -/
theorem sum_planes (G : Fin 16 → Fin 20000 → EReal) (F : Fin cfg0.N → EReal)
    (h : ∀ (t : Fin cfg0.N) (hb : ∀ s : Fin 8, t.val / 10 * 8 + s.val < 16) (hr : ∀ x : Fin 2000, t.val % 10 * 2000 + x.val < 20000),
      F t = ∑ s : Fin 8, ∑ x : Fin 2000, G ⟨t.val / 10 * 8 + s.val, hb s⟩ ⟨t.val % 10 * 2000 + x.val, hr x⟩) :
    ∑ t : Fin cfg0.N, F t = ∑ b : Fin 16, ∑ r : Fin 20000, G b r := by
  refine (Fin.sum_divmod_congr (A := 2) (S := 10)
    (f := fun a j => ∑ s : Fin 8, ∑ x : Fin 2000, G ⟨a.val * 8 + s.val, by omega⟩ ⟨j.val * 2000 + x.val, by omega⟩)
    (fun t ha hs => h t (fun s => by omega) (fun x => by omega)) N_0).trans ?_
  rw [← Fin.sum_mul_add_fin 2 8 (fun b : Fin 16 => ∑ r : Fin 20000, G b r)]
  refine Finset.sum_congr rfl fun a _ => ?_
  rw [Finset.sum_comm]
  refine Finset.sum_congr rfl fun s _ => ?_
  exact Fin.sum_mul_add_fin 10 2000 (fun r : Fin 20000 => G ⟨a.val * 8 + s.val, _⟩ r)

/-- A point's smooth-L1 terms: 10000 anchors of one image. -/
theorem locPoint_eq (lp lt : FVec Ideal S16x20000x4 .f32) (ct : IVec S16x20000 32) (i : grid1.Coords) (t : ℕ) (hi : (i 0).val = t / 2)
    (x2 : IVec S10000x128 32) (x0 x1 : FVec Ideal S1x10000x4 .f32)
    (hb : t / 2 < 16) (hr : ∀ x : Fin 10000, t % 2 * 10000 + x.val < 20000) (hw : ∀ x : Fin 10000, (t / 16 * 2 + t % 2) * 10000 + x.val < 40000)
    (h2 : ∀ (x : Fin 10000) (l : Fin 128), x2 (ix2 x l) = padTab ct (ix2 ⟨(t / 16 * 2 + t % 2) * 10000 + x.val, hw x⟩ l))
    (h0 : ∀ (x : Fin 10000) (k : Fin 4), x0 (ix3 0 x k) = lp (ix3 ⟨t / 2, hb⟩ ⟨t % 2 * 10000 + x.val, hr x⟩ k))
    (h1 : ∀ (x : Fin 10000) (k : Fin 4), x1 (ix3 0 x k) = lt (ix3 ⟨t / 2, hb⟩ ⟨t % 2 * 10000 + x.val, hr x⟩ k)) :
    k1_pay11 (F := Ideal) i x2 x0 x1 (ix2 0 0) = (∑ x : Fin 10000, anchorLoc lp lt ct ⟨t / 2, hb⟩ ⟨t % 2 * 10000 + x.val, hr x⟩ : EReal)
    ∧ k1_pay1 (F := Ideal) (k1_pay12 i x2) (ix2 0 0) = (∑ x : Fin 10000, posE (ct (ix2 ⟨t / 2, hb⟩ ⟨t % 2 * 10000 + x.val, hr x⟩)) : EReal) := by
  have h8 : (i 0).val % 8 < 128 := by omega
  have hl : ∀ x : Fin 10000, x2 (ix2 x ⟨(i 0).val % 8, h8⟩) = ct (ix2 ⟨t / 2, hb⟩ ⟨t % 2 * 10000 + x.val, hr x⟩) := by
    intro x
    have hx' := x.isLt
    have e1 : ((t / 16 * 2 + t % 2) * 10000 + x.val) / 20000 * 8 + (i 0).val % 8 = t / 2 := by omega
    have e2 : ((t / 16 * 2 + t % 2) * 10000 + x.val) % 20000 = t % 2 * 10000 + x.val := by omega
    rw [h2, padTab_apply ct ⟨(t / 16 * 2 + t % 2) * 10000 + x.val, hw x⟩ ⟨(i 0).val % 8, by omega⟩ h8 (by dsimp only; omega) (by dsimp only; omega)]
    simp only [e1, e2]
  constructor
  · rw [locPart_apply i x2 x0 x1 h8]
    refine Finset.sum_congr rfl fun x _ => ?_
    unfold anchorLoc
    rw [hl]
    simp only [h0, h1]
  · rw [cntPart_apply i x2 h8]
    exact Finset.sum_congr rfl fun x _ => by rw [hl]

/-- The location grid's first coordinate is the image. -/
theorem coord1 : ∀ t : Fin cfg1.N, (grid1.coords t 0).val = t.val / 2 :=
  (by decide +kernel : ∀ t : Fin grid1.N, (grid1.coords t 0).val = t.val / 2)

variable (m : (ℓ : Loc nD τ sig) → Buf (Elt Ideal) ℓ) (ρ : Dev nD → PrngReg) (c : Dev nD)

/-- The arguments at launch. -/
abbrev argLp : FVec Ideal S16x20000x4 .f32 := m ((c : Thread nD τ).loc main_arg0)
abbrev argLt : FVec Ideal S16x20000x4 .f32 := m ((c : Thread nD τ).loc main_arg1)
abbrev argCp : FVec Ideal S16x20000x81 .f32 := m ((c : Thread nD τ).loc main_arg2)
abbrev argCt : IVec S16x20000 32 := m ((c : Thread nD τ).loc main_arg3)

/-- One point of the confidence call. -/
theorem confAt_eq (t : Fin cfg0.N) (hb : ∀ s : Fin 8, t.val / 10 * 8 + s.val < 16) (hr : ∀ x : Fin 2000, t.val % 10 * 2000 + x.val < 20000) :
    confAt (V1 m ρ) c t = ∑ s : Fin 8, ∑ x : Fin 2000, anchorConf (argCp m c) (argCt m c) ⟨t.val / 10 * 8 + s.val, hb s⟩ ⟨t.val % 10 * 2000 + x.val, hr x⟩ := by
  have ht : t.val < 20 := lt_of_lt_of_eq t.isLt N_0
  have hw : ∀ x : Fin 2000, t.val * 2000 + x.val < 40000 := fun x => by omega
  have h8 : ∀ (x : Fin 2000) (l : Fin 128), (show IVec S2000x128 32 from iblk0 (V1 m ρ) c 8 t) (ix2 x l) = padTab (argCt m c) (ix2 ⟨t.val * 2000 + x.val, hw x⟩ l) :=
    fun x l => (blk0_8 (V1 m ρ) c t x l (hw x)).trans (congrFun (V1_tab m ρ c) _)
  have hc := fun i => congrFun (V1_arg2 m ρ c) i
  unfold confAt
  rw [Fin.sum_univ_eight]
  refine (confPart_apply _ _ _ _ _ _ _ _ _ _).trans ?_
  have e := fun s : Fin 8 => slab_eq (argCp m c) (argCt m c) t.val s (iblk0 (V1 m ρ) c 8 t) (scores (V1 m ρ) c t s) (by omega) (hb s) hr hw h8
    (fun x k => (scores_apply (V1 m ρ) c t s x k (hb s) (hr x)).trans (hc _))
  exact congrArg₂ (· + ·) (congrArg₂ (· + ·) (congrArg₂ (· + ·) (congrArg₂ (· + ·) (congrArg₂ (· + ·) (congrArg₂ (· + ·) (congrArg₂ (· + ·) (e 0) (e 1)) (e 2)) (e 3)) (e 4)) (e 5)) (e 6)) (e 7)

/-- The confidence call's result. -/
theorem confAll_eq : confAll (V1 m ρ) c = ∑ b : Fin 16, ∑ r : Fin 20000, anchorConf (argCp m c) (argCt m c) b r :=
  sum_planes _ _ fun t hb hr => confAt_eq m ρ c t hb hr

/-- One point of the location call. -/
theorem locAt_eq (t : Fin cfg1.N) (hb : t.val / 2 < 16) (hr : ∀ x : Fin 10000, t.val % 2 * 10000 + x.val < 20000) :
    locAt (V2 m ρ) c t = ∑ x : Fin 10000, anchorLoc (argLp m c) (argLt m c) (argCt m c) ⟨t.val / 2, hb⟩ ⟨t.val % 2 * 10000 + x.val, hr x⟩
    ∧ cntAt (V2 m ρ) c t = ∑ x : Fin 10000, posE (argCt m c (ix2 ⟨t.val / 2, hb⟩ ⟨t.val % 2 * 10000 + x.val, hr x⟩)) := by
  have ht : t.val < 32 := lt_of_lt_of_eq t.isLt N_1
  have hw : ∀ x : Fin 10000, (t.val / 16 * 2 + t.val % 2) * 10000 + x.val < 40000 := fun x => by omega
  exact locPoint_eq (argLp m c) (argLt m c) (argCt m c) (grid1.coords t) t.val (coord1 t) _ _ _ hb hr hw
    (fun x l => (blk1_2 (V2 m ρ) c t x l (hw x)).trans (congrFun (V2_tab m ρ c) _))
    (fun x k => (blk1_0 (V2 m ρ) c t x k hb (hr x)).trans (congrFun (V2_arg0 m ρ c) _))
    (fun x k => (blk1_1 (V2 m ρ) c t x k hb (hr x)).trans (congrFun (V2_arg1 m ρ c) _))

/-- The location call's sum of smooth-L1 terms. -/
theorem locAll_eq : locAll (V2 m ρ) c = ∑ b : Fin 16, ∑ r : Fin 20000, anchorLoc (argLp m c) (argLt m c) (argCt m c) b r := by
  have hr : ∀ (t : Fin cfg1.N) (x : Fin 10000), t.val % 2 * 10000 + x.val < 20000 := fun t x => by omega
  have hb : ∀ t : Fin cfg1.N, t.val / 2 < 16 := fun t => by have : t.val < 32 := lt_of_lt_of_eq t.isLt N_1; omega
  refine (Finset.sum_congr rfl fun t _ => (locAt_eq m ρ c t (hb t) (hr t)).1).trans ?_
  exact Fin.sum_points_lanes_congr (A := 16) (L := 20000) 2 (fun t k ha hl => rfl) N_1 rfl

/-- The location call's count. -/
theorem cntAll_eq : cntAll (V2 m ρ) c = ∑ b : Fin 16, ∑ r : Fin 20000, posE (argCt m c (ix2 b r)) := by
  have hr : ∀ (t : Fin cfg1.N) (x : Fin 10000), t.val % 2 * 10000 + x.val < 20000 := fun t x => by omega
  have hb : ∀ t : Fin cfg1.N, t.val / 2 < 16 := fun t => by have : t.val < 32 := lt_of_lt_of_eq t.isLt N_1; omega
  refine (Finset.sum_congr rfl fun t _ => (locAt_eq m ρ c t (hb t) (hr t)).2).trans ?_
  exact Fin.sum_points_lanes_congr (A := 16) (L := 20000) 2 (g := fun b r => posE (argCt m c (ix2 b r))) (fun t k ha hl => rfl) N_1 rfl

end Cert.KernelIdeal.Own

end
-- ==== Proof.KernelIdeal.Value.lean ====
module

public import proofs.«01_k».proof.Proof.KernelIdeal.Sums

/-! The kernel's three results in terms of its arguments. -/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL.Sem Cert.Own

variable (m : (ℓ : Loc nD τ sig) → Buf (Elt Ideal) ℓ) (ρ : Dev nD → PrngReg) (c : Dev nD)

/-- A block of one number has one index. -/
theorem idx11 (i : S1x1.Idx) : i = ix2 0 0 := by
  funext a
  fin_cases a <;> exact Subsingleton.elim (α := Fin 1) _ _

/-- The confidence call leaves the sum of all focal terms. -/
theorem craw_eq : (show FVec Ideal S1x1 .f32 from V2 m ρ c main_call0_v4) = fun _ => confAll (V1 m ρ) c := by
  obtain ⟨t, ht, hw⟩ : ∃ t : Fin cfg0.N, t.val = 19 ∧ (cfg0.win 9).WholeAt t := ⟨⟨19, by decide⟩, rfl, by decide +kernel⟩
  refine (hF0 m ρ c 9).symm.trans ?_
  refine (dat0 (V1 m ρ) c).arrAt_eq_of_after_last 9 t hw _ fun j => ?_
  rw [after0_9]
  refine Eq.trans ?_ (outs0_last (V1 m ρ) c t ht)
  exact congrArg (show FVec Ideal S1x1 .f32 from outsAt0 (V1 m ρ) c t.val t.isLt) (idx11 _)

/-- The confidence loss, as the kernel makes it. -/
def kConf : EReal := Ideal.div (factor * confAll (V1 m ρ) c) (cntAll (V2 m ρ) c)
/-- The location loss, as the kernel makes it. -/
def kLoc : EReal := Ideal.div (locAll (V2 m ρ) c) (cntAll (V2 m ρ) c)
/-- The total loss, as the kernel makes it. -/
def kTot : EReal := Ideal.ofBits .f32 1056964608#32 * kConf m ρ c + Ideal.ofBits .f32 1056964608#32 * kLoc m ρ c

/-- What the last point of the location call leaves. -/
theorem last_eq (t : Fin cfg1.N) (ht : t.val = 31) :
    (show FVec Ideal S1x1 .f32 from (outsAt1 (V2 m ρ) c t.val t.isLt).1) (ix2 0 0) = kTot m ρ c
    ∧ (show FVec Ideal S1x1 .f32 from (outsAt1 (V2 m ρ) c t.val t.isLt).2.1) (ix2 0 0) = kConf m ρ c
    ∧ (show FVec Ideal S1x1 .f32 from (outsAt1 (V2 m ρ) c t.val t.isLt).2.2) (ix2 0 0) = kLoc m ρ c := by
  have h := outs1_last (V2 m ρ) c t ht
  have e : (show FVec Ideal S1x1 .f32 from iblk1 (V2 m ρ) c 3 t) (ix2 0 0) = confAll (V1 m ρ) c :=
    (blk1_3 (V2 m ρ) c t).trans (congrFun (craw_eq m ρ c) _)
  rw [e] at h
  exact h

/-- The location call has a last point, and it writes the whole of each result. -/
theorem last_point : ∃ t : Fin cfg1.N, t.val = 31 ∧ (cfg1.win 4).WholeAt t ∧ (cfg1.win 5).WholeAt t ∧ (cfg1.win 6).WholeAt t :=
  ⟨⟨31, by decide⟩, rfl, by decide +kernel, by decide +kernel, by decide +kernel⟩

/-- The array of window 4 after the location call. -/
theorem tot_arr : (show FVec Ideal S1x1 .f32 from V3 m ρ c main_call0_v5_0) = fun _ => kTot m ρ c := by
  obtain ⟨t, ht, hw, _, _⟩ := last_point
  refine (hF1 m ρ c 4).symm.trans ?_
  refine (dat1 (V2 m ρ) c).arrAt_eq_of_after_last 4 t hw _ fun j => ?_
  rw [after1_4]
  refine Eq.trans ?_ (last_eq m ρ c t ht).1
  exact congrArg (show FVec Ideal S1x1 .f32 from (outsAt1 (V2 m ρ) c t.val t.isLt).1) (idx11 _)

/-- The array of window 5 after the location call. -/
theorem conf_arr : (show FVec Ideal S1x1 .f32 from V3 m ρ c main_call0_v5_1) = fun _ => kConf m ρ c := by
  obtain ⟨t, ht, _, hw, _⟩ := last_point
  refine (hF1 m ρ c 5).symm.trans ?_
  refine (dat1 (V2 m ρ) c).arrAt_eq_of_after_last 5 t hw _ fun j => ?_
  rw [after1_5]
  refine Eq.trans ?_ (last_eq m ρ c t ht).2.1
  exact congrArg (show FVec Ideal S1x1 .f32 from (outsAt1 (V2 m ρ) c t.val t.isLt).2.1) (idx11 _)

/-- The array of window 6 after the location call. -/
theorem loc_arr : (show FVec Ideal S1x1 .f32 from V3 m ρ c main_call0_v5_2) = fun _ => kLoc m ρ c := by
  obtain ⟨t, ht, _, _, hw⟩ := last_point
  refine (hF1 m ρ c 6).symm.trans ?_
  refine (dat1 (V2 m ρ) c).arrAt_eq_of_after_last 6 t hw _ fun j => ?_
  rw [after1_6]
  refine Eq.trans ?_ (last_eq m ρ c t ht).2.2
  exact congrArg (show FVec Ideal S1x1 .f32 from (outsAt1 (V2 m ρ) c t.val t.isLt).2.2) (idx11 _)

/-- The first result: the total loss. -/
theorem res_tot : (show FVec Ideal S_ .f32 from W4 m ρ c (Proc.devRef .tc main_v0_0)) = fun _ => kTot m ρ c := by
  have e : (show FVec Ideal S_ .f32 from W4 m ρ c (Proc.devRef .tc main_v0_0))
      = shapeCast S_ (show FVec Ideal S1x1 .f32 from V3 m ρ c main_call0_v5_0) shapeCasts_S1x1_S_ := by
    simp only [W4]
    after_results_simp
    rfl
  rw [e, tot_arr]
  rfl

/-- The second: the confidence loss. -/
theorem res_conf : (show FVec Ideal S_ .f32 from W4 m ρ c (Proc.devRef .tc main_v0_1)) = fun _ => kConf m ρ c := by
  have e : (show FVec Ideal S_ .f32 from W4 m ρ c (Proc.devRef .tc main_v0_1))
      = shapeCast S_ (show FVec Ideal S1x1 .f32 from V3 m ρ c main_call0_v5_1) shapeCasts_S1x1_S_ := by
    simp only [W4]
    after_results_simp
    rfl
  rw [e, conf_arr]
  rfl

/-- The third: the location loss. -/
theorem res_loc : (show FVec Ideal S_ .f32 from W4 m ρ c (Proc.devRef .tc main_v0_2)) = fun _ => kLoc m ρ c := by
  have e : (show FVec Ideal S_ .f32 from W4 m ρ c (Proc.devRef .tc main_v0_2))
      = shapeCast S_ (show FVec Ideal S1x1 .f32 from V3 m ρ c main_call0_v5_2) shapeCasts_S1x1_S_ := by
    simp only [W4]
    after_results_simp
    rfl
  rw [e, loc_arr]
  rfl

end Cert.KernelIdeal.Own

end
-- ==== Proof.Algebraic.lean ====
module

public import proofs.«01_k».proof.Proof.Frames
public import proofs.«01_k».proof.Proof.RefSums
public import proofs.«01_k».proof.Proof.KernelIdeal.Value

/-! The value claim: from finite scores the kernel and the reference end with the same three losses. -/

@[expose] public section

set_option maxRecDepth 16384

noncomputable section

open Idealize.ShloMosaic Idealize.ShloMosaic.TcCoe Idealize.ShloMosaic.Tactic Idealize.SL.Sem

namespace Cert.Own

/-- A conjunction of bits that is one has every bit one. -/
theorem fold_andi_one {ι : Type} (s : Finset ι) (f : ι → BitVec 1) (h : s.fold IntOp.andi 1#1 f = 1#1) : ∀ i ∈ s, f i = 1#1 := by
  classical
  induction s using Finset.induction_on with
  | empty => intro i hi; exact absurd hi (Finset.notMem_empty i)
  | insert a s ha ih =>
    rw [Finset.fold_insert ha] at h
    have hb : f a = 1#1 ∧ s.fold IntOp.andi 1#1 f = 1#1 := by
      rcases bit_cases (f a) with h1 | h1 <;> rcases bit_cases (s.fold IntOp.andi 1#1 f) with h2 | h2 <;> rw [h1, h2] at h ⊢ <;> first | exact ⟨rfl, rfl⟩ | (revert h; decide)
    intro i hi
    rcases Finset.mem_insert.mp hi with rfl | hi
    · exact hb.1
    · exact ih hb.2 i hi

/-- The same over a whole type. -/
theorem all_one {ι : Type} {_ : Fintype ι} (f : ι → BitVec 1) (h : Finset.univ.fold IntOp.andi 1#1 f = 1#1) (i : ι) : f i = 1#1 :=
  fold_andi_one _ f h i (Finset.mem_univ i)

/-- What is below infinity in absolute value is a real number. -/
theorem real_of_abs (x : EReal) (hm : max x (-x) < ⊤) : ∃ r : ℝ, x = (r : EReal) := by
  induction x with
  | top => simp at hm
  | bot => simp at hm
  | coe r => exact ⟨r, rfl⟩

/-- The bits of infinity. -/
theorem inf_eq : Ideal.ofBits .f32 2139095040#32 = ⊤ := by simp [Ideal.ofBits, Ideal.ieee]

/-- The precondition: every score is a real number. -/
theorem finite_of_pre (a0 a1 : FVec Ideal Cert.Pre_finite_conf.S16x20000x4 .f32) (cp : FVec Ideal Cert.Pre_finite_conf.S16x20000x81 .f32) (ct : IVec Cert.Pre_finite_conf.S16x20000 32)
    (h : Cert.Pre_finite_conf.fn (F := Ideal) a0 a1 cp ct = fun _ => 1#1) : ∀ i, ∃ r : ℝ, cp i = (r : EReal) := by
  have h0 : Cert.Pre_finite_conf.fn (F := Ideal) a0 a1 cp ct (fun a => a.elim0) = 1#1 := congrFun h _
  pointwise [Cert.Pre_finite_conf.fn] at h0
  intro i
  obtain ⟨a, b, k, rfl⟩ : ∃ (a : Fin 16) (b : Fin 20000) (k : Fin 81), i = ix3 a b k :=
    ⟨i 0, i 1, i 2, funext fun x => match x with | ⟨0, _⟩ => rfl | ⟨1, _⟩ => rfl | ⟨2, _⟩ => rfl⟩
  have hb := all_one _ h0 (a, b, k)
  have hlt : FloatOps.absf (F := Ideal) (φ := .f32) (cp (ix3 a b k)) < (⊤ : EReal) := by
    rw [← inf_eq]
    by_contra hn
    have : decide (FloatOps.absf (F := Ideal) (φ := .f32) (cp (ix3 a b k)) < Ideal.ofBits .f32 2139095040#32) = false := decide_eq_false hn
    dsimp only at hb
    rw [this] at hb
    revert hb
    decide
  exact real_of_abs _ hlt

section Agree
variable (m : (ℓ : Loc Cert.KernelIdeal.nD Cert.KernelIdeal.τ Cert.KernelIdeal.sig) → Buf (Elt Ideal) ℓ) (g : Dev Cert.KernelIdeal.nD → PrngReg) (c : Dev Cert.KernelIdeal.nD)

/-- The counts agree. -/
theorem count_agree (j : Cert.ReferenceIdeal.S_.Idx) :
    Cert.ReferenceIdeal.Own.count (Cert.KernelIdeal.Own.argCt m c) j = Cert.KernelIdeal.Own.cntAll (Cert.KernelIdeal.Own.V2 m g) c :=
  (Cert.ReferenceIdeal.Own.count_apply _ j).trans (Cert.KernelIdeal.Own.cntAll_eq m g c).symm

/-- The confidence losses agree. -/
theorem conf_agree (cp : FVec Ideal Cert.ReferenceIdeal.S16x20000x81 .f32) (ct : IVec Cert.ReferenceIdeal.S16x20000 32)
    (h2 : cp = Cert.KernelIdeal.Own.argCp m c) (h3 : ct = Cert.KernelIdeal.Own.argCt m c) (hfin : ∀ i, ∃ r : ℝ, Cert.KernelIdeal.Own.argCp m c i = (r : EReal)) :
    Cert.ReferenceIdeal.Own.confLoss cp ct = fun _ => Cert.KernelIdeal.Own.kConf m g c := by
  subst h2 h3
  funext j
  exact congrArg₂ Ideal.div ((Cert.ReferenceIdeal.Own.confSum_eq _ _ hfin j).trans
    (congrArg (factor * ·) (Cert.KernelIdeal.Own.confAll_eq m g c).symm)) (count_agree m g c j)

/-- The location losses agree. -/
theorem loc_agree (lp lt : FVec Ideal Cert.ReferenceIdeal.S16x20000x4 .f32) (ct : IVec Cert.ReferenceIdeal.S16x20000 32)
    (h0 : lp = Cert.KernelIdeal.Own.argLp m c) (h1 : lt = Cert.KernelIdeal.Own.argLt m c) (h3 : ct = Cert.KernelIdeal.Own.argCt m c) :
    Cert.ReferenceIdeal.Own.locLoss lp lt ct = fun _ => Cert.KernelIdeal.Own.kLoc m g c := by
  subst h0 h1 h3
  funext j
  exact congrArg₂ Ideal.div ((Cert.ReferenceIdeal.Own.locSum_eq _ _ _ j).trans (Cert.KernelIdeal.Own.locAll_eq m g c).symm) (count_agree m g c j)

/-- The total losses agree. -/
theorem total_agree (lp lt : FVec Ideal Cert.ReferenceIdeal.S16x20000x4 .f32) (cp : FVec Ideal Cert.ReferenceIdeal.S16x20000x81 .f32) (ct : IVec Cert.ReferenceIdeal.S16x20000 32)
    (hc : Cert.ReferenceIdeal.Own.confLoss cp ct = fun _ => Cert.KernelIdeal.Own.kConf m g c) (hl : Cert.ReferenceIdeal.Own.locLoss lp lt ct = fun _ => Cert.KernelIdeal.Own.kLoc m g c) :
    Cert.ReferenceIdeal.Own.totalLoss lp lt cp ct = fun _ => Cert.KernelIdeal.Own.kTot m g c := by
  unfold Cert.ReferenceIdeal.Own.totalLoss
  rw [hc, hl]
  rfl

end Agree

/-- THE VALUE CLAIM: the three losses agree. -/
theorem algebraic : Cert.algebraic_KernelIdeal_ReferenceIdeal_pre_finite_conf := by
  intro m g m' g' hpre harg
  have hk := Cert.KernelIdeal.Own.ran (F := Ideal) m g
  have hr := Cert.ReferenceIdeal.Own.ran m' g'
  refine ⟨fun c _ => Cert.KernelIdeal.Own.kTot m g c, fun c _ => Cert.KernelIdeal.Own.kConf m g c, fun c _ => Cert.KernelIdeal.Own.kLoc m g c, ?_, ?_⟩
  · exact (θ_run _ _ _).mono (fun _ h c =>
      ⟨(h.1 c _ (Cert.KernelIdeal.Own.mem_uc Cert.KernelIdeal.main_v0_0 (by decide))).trans (Cert.KernelIdeal.Own.res_tot m g c),
       (h.1 c _ (Cert.KernelIdeal.Own.mem_uc Cert.KernelIdeal.main_v0_1 (by decide))).trans (Cert.KernelIdeal.Own.res_conf m g c),
       (h.1 c _ (Cert.KernelIdeal.Own.mem_uc Cert.KernelIdeal.main_v0_2 (by decide))).trans (Cert.KernelIdeal.Own.res_loc m g c),
       (h.1 c _ (Cert.KernelIdeal.Own.mem_uc Cert.KernelIdeal.main_arg0 (by decide))).trans (Cert.KernelIdeal.Own.W4_main_arg0 m g c),
       (h.1 c _ (Cert.KernelIdeal.Own.mem_uc Cert.KernelIdeal.main_arg1 (by decide))).trans (Cert.KernelIdeal.Own.W4_main_arg1 m g c),
       (h.1 c _ (Cert.KernelIdeal.Own.mem_uc Cert.KernelIdeal.main_arg2 (by decide))).trans (Cert.KernelIdeal.Own.W4_main_arg2 m g c),
       (h.1 c _ (Cert.KernelIdeal.Own.mem_uc Cert.KernelIdeal.main_arg3 (by decide))).trans (Cert.KernelIdeal.Own.W4_main_arg3 m g c)⟩) hk
  · refine (θ_run _ _ _).mono (fun _ h c => ?_) hr
    obtain ⟨h0, h1, h2, hrest⟩ := h c
    have hc := conf_agree m g c _ _ (harg c).2.2.1 (harg c).2.2.2 (finite_of_pre _ _ _ _ (hpre c))
    have hl := loc_agree m g c _ _ _ (harg c).1 (harg c).2.1 (harg c).2.2.2
    exact ⟨h0.trans (total_agree m g c _ _ _ _ hc hl), h1.trans hc, h2.trans hl, hrest⟩

end Cert.Own

end
-- ==== Proof.lean ====
/- The certificate: the frames of every program, the named constants, and the agreement of the three losses. -/
module

public import proofs.«01_k».proof.Defs
public import proofs.«01_k».proof.Proof.Frames
public import proofs.«01_k».proof.Proof.Algebraic

@[expose] public section

noncomputable section

namespace Cert.Proof

/-- The whole claim. -/
theorem claim : Cert.Claim :=
  ⟨Cert.Kernel.Gen.facts, Cert.KernelIdeal.Gen.facts, Cert.ReferenceIdeal.Gen.facts, Cert.Own.preFacts,
    Cert.Own.frame_kernel, Cert.Own.frame_kernelIdeal, Cert.Own.frame_kernelIdeal_pre, Cert.Own.frame_reference,
    Cert.Own.frame_reference_pre, Cert.Own.preserves, Cert.Own.algebraic⟩

end Cert.Proof

end
